-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v416) = v0 c
          ∧ r.2.mem ((c.tc : Thread Cert.ReferenceIdeal.nD Cert.ReferenceIdeal.τ).loc Cert.ReferenceIdeal.main_v358) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x8x1x32x32 : Shape := ⟨5, ![32, 8, 1, 32, 32]⟩
abbrev S10x1x3x3x3 : Shape := ⟨5, ![10, 1, 3, 3, 3]⟩
abbrev S10 : Shape := ⟨1, ![10]⟩
abbrev S1x10x8x3x3 : Shape := ⟨5, ![1, 10, 8, 3, 3]⟩
abbrev S1 : Shape := ⟨1, ![1]⟩
abbrev S5x1024x8 : Shape := ⟨3, ![5, 1024, 8]⟩
abbrev S5x8x1024x2048 : Shape := ⟨4, ![5, 8, 1024, 2048]⟩
abbrev S5x8x2048 : Shape := ⟨3, ![5, 8, 2048]⟩
abbrev S5x8x2048x1024 : Shape := ⟨4, ![5, 8, 2048, 1024]⟩
abbrev S5x8x1024 : Shape := ⟨3, ![5, 8, 1024]⟩
abbrev S_ : Shape := ⟨0, ![]⟩

class Facts : Prop where
  bcast_S_S32x8x1x32x32 : S_.BroadcastsInDim S32x8x1x32x32 (![] : Fin 0 → Fin S32x8x1x32x32.rank)
  bcast_S_S10x1x3x3x3 : S_.BroadcastsInDim S10x1x3x3x3 (![] : Fin 0 → Fin S10x1x3x3x3.rank)
  bcast_S_S10 : S_.BroadcastsInDim S10 (![] : Fin 0 → Fin S10.rank)
  bcast_S_S1x10x8x3x3 : S_.BroadcastsInDim S1x10x8x3x3 (![] : Fin 0 → Fin S1x10x8x3x3.rank)
  bcast_S_S1 : S_.BroadcastsInDim S1 (![] : Fin 0 → Fin S1.rank)
  bcast_S_S5x1024x8 : S_.BroadcastsInDim S5x1024x8 (![] : Fin 0 → Fin S5x1024x8.rank)

variable [Facts]

def fn {F : FTy → Type} [FloatOps F] (main_arg0 : FVec F S32x8x1x32x32 .f32) (main_arg1 : FVec F S10x1x3x3x3 .f32) (main_arg2 : FVec F S10 .f32) (main_arg3 : FVec F S1x10x8x3x3 .f32) (main_arg4 : FVec F S1 .f32) (main_arg5 : FVec F S5x1024x8 .f32) (main_arg6 : FVec F S5x8x1024x2048 .f32) (main_arg7 : FVec F S5x8x2048 .f32) (main_arg8 : FVec F S5x8x2048x1024 .f32) (main_arg9 : FVec F S5x8x1024 .f32) : IVec S32x8x1x32x32 1 × IVec S10x1x3x3x3 1 × IVec S10 1 × IVec S1x10x8x3x3 1 × IVec S1 1 × IVec S5x1024x8 1 :=
  let main_v0 : FVec F S32x8x1x32x32 .f32 := Host.absf main_arg0
  let main_cst : FVec F S_ .f32 := constant S_ .f32 0x7F800000#32
  let main_v1 : FVec F S32x8x1x32x32 .f32 := broadcastInDim S32x8x1x32x32 ![] bcast_S_S32x8x1x32x32 main_cst
  let main_v2 : IVec S32x8x1x32x32 1 := cmpf .olt main_v0 main_v1
  let main_v3 : FVec F S10x1x3x3x3 .f32 := Host.absf main_arg1
  let main_cst_0 : FVec F S_ .f32 := constant S_ .f32 0x7F800000#32
  let main_v4 : FVec F S10x1x3x3x3 .f32 := broadcastInDim S10x1x3x3x3 ![] bcast_S_S10x1x3x3x3 main_cst_0
  let main_v5 : IVec S10x1x3x3x3 1 := cmpf .olt main_v3 main_v4
  let main_v6 : FVec F S10 .f32 := Host.absf main_arg2
  let main_cst_1 : FVec F S_ .f32 := constant S_ .f32 0x7F800000#32
  let main_v7 : FVec F S10 .f32 := broadcastInDim S10 ![] bcast_S_S10 main_cst_1
  let main_v8 : IVec S10 1 := cmpf .olt main_v6 main_v7
  let main_v9 : FVec F S1x10x8x3x3 .f32 := Host.absf main_arg3
  let main_cst_2 : FVec F S_ .f32 := constant S_ .f32 0x7F800000#32
  let main_v10 : FVec F S1x10x8x3x3 .f32 := broadcastInDim S1x10x8x3x3 ![] bcast_S_S1x10x8x3x3 main_cst_2
  let main_v11 : IVec S1x10x8x3x3 1 := cmpf .olt main_v9 main_v10
  let main_v12 : FVec F S1 .f32 := Host.absf main_arg4
  let main_cst_3 : FVec F S_ .f32 := constant S_ .f32 0x7F800000#32
  let main_v13 : FVec F S1 .f32 := broadcastInDim S1 ![] bcast_S_S1 main_cst_3
  let main_v14 : IVec S1 1 := cmpf .olt main_v12 main_v13
  let main_v15 : FVec F S5x1024x8 .f32 := Host.absf main_arg5
  let main_cst_4 : FVec F S_ .f32 := constant S_ .f32 0x7F800000#32
  let main_v16 : FVec F S5x1024x8 .f32 := broadcastInDim S5x1024x8 ![] bcast_S_S5x1024x8 main_cst_4
  let main_v17 : IVec S5x1024x8 1 := cmpf .olt main_v15 main_v16
  (main_v2, main_v5, main_v8, main_v11, main_v14, main_v17)
-- ==== Kernel.lean ====
abbrev S32x8x1x32x32 : Shape := ⟨5, ![32, 8, 1, 32, 32]⟩
abbrev S10x1x3x3x3 : Shape := ⟨5, ![10, 1, 3, 3, 3]⟩
abbrev S10 : Shape := ⟨1, ![10]⟩
abbrev S1x10x8x3x3 : Shape := ⟨5, ![1, 10, 8, 3, 3]⟩
abbrev S1 : Shape := ⟨1, ![1]⟩
abbrev S5x1024x8 : Shape := ⟨3, ![5, 1024, 8]⟩
abbrev S5x8x1024x2048 : Shape := ⟨4, ![5, 8, 1024, 2048]⟩
abbrev S5x8x2048 : Shape := ⟨3, ![5, 8, 2048]⟩
abbrev S5x8x2048x1024 : Shape := ⟨4, ![5, 8, 2048, 1024]⟩
abbrev S5x8x1024 : Shape := ⟨3, ![5, 8, 1024]⟩
abbrev S32x8x1024 : Shape := ⟨3, ![32, 8, 1024]⟩
abbrev S10x27 : Shape := ⟨2, ![10, 27]⟩
abbrev S1x10 : Shape := ⟨2, ![1, 10]⟩
abbrev S10x72 : Shape := ⟨2, ![10, 72]⟩
abbrev S1x1 : Shape := ⟨2, ![1, 1]⟩
abbrev S1024x5x8 : Shape := ⟨3, ![1024, 5, 8]⟩
abbrev S1024x40 : Shape := ⟨2, ![1024, 40]⟩
abbrev S32x1x1024 : Shape := ⟨3, ![32, 1, 1024]⟩
abbrev S1x8x1024 : Shape := ⟨3, ![1, 8, 1024]⟩
abbrev S1x1x1024 : Shape := ⟨3, ![1, 1, 1024]⟩
abbrev S8x1024 : Shape := ⟨2, ![8, 1024]⟩
abbrev S1x1024 : Shape := ⟨2, ![1, 1024]⟩
abbrev S8x1 : Shape := ⟨2, ![8, 1]⟩
abbrev S8x33 : Shape := ⟨2, ![8, 33]⟩
abbrev S8x991 : Shape := ⟨2, ![8, 991]⟩
abbrev S7x1024 : Shape := ⟨2, ![7, 1024]⟩
abbrev S8x32 : Shape := ⟨2, ![8, 32]⟩
abbrev S8x992 : Shape := ⟨2, ![8, 992]⟩
abbrev S8x31 : Shape := ⟨2, ![8, 31]⟩
abbrev S8x993 : Shape := ⟨2, ![8, 993]⟩
abbrev S8x1023 : Shape := ⟨2, ![8, 1023]⟩
abbrev S1024 : Shape := ⟨1, ![1024]⟩
abbrev S32x1024 : Shape := ⟨2, ![32, 1024]⟩
abbrev S5x8x1x2048 : Shape := ⟨4, ![5, 8, 1, 2048]⟩
abbrev S5x8x1x1024 : Shape := ⟨4, ![5, 8, 1, 1024]⟩
abbrev S5x8x32x1024 : Shape := ⟨4, ![5, 8, 32, 1024]⟩
abbrev S1x1x1024x2048 : Shape := ⟨4, ![1, 1, 1024, 2048]⟩
abbrev S1x1x1x2048 : Shape := ⟨4, ![1, 1, 1, 2048]⟩
abbrev S1x1x2048x1024 : Shape := ⟨4, ![1, 1, 2048, 1024]⟩
abbrev S1x1x1x1024 : Shape := ⟨4, ![1, 1, 1, 1024]⟩
abbrev S1x1x32x1024 : Shape := ⟨4, ![1, 1, 32, 1024]⟩
abbrev S1024x2048 : Shape := ⟨2, ![1024, 2048]⟩
abbrev S32x2048 : Shape := ⟨2, ![32, 2048]⟩
abbrev S1x2048 : Shape := ⟨2, ![1, 2048]⟩
abbrev S2048x1024 : Shape := ⟨2, ![2048, 1024]⟩
abbrev S32 : Shape := ⟨1, ![32]⟩
abbrev S32x1 : Shape := ⟨2, ![32, 1]⟩
abbrev S32x40 : Shape := ⟨2, ![32, 40]⟩
abbrev S32x8 : Shape := ⟨2, ![32, 8]⟩
abbrev S8 : Shape := ⟨1, ![8]⟩
abbrev S1x8 : Shape := ⟨2, ![1, 8]⟩
abbrev S1x1x8 : Shape := ⟨3, ![1, 1, 8]⟩
abbrev S1x1x1 : Shape := ⟨3, ![1, 1, 1]⟩
abbrev S_ : Shape := ⟨0, ![]⟩

abbrev nBuf : Space → Nat
  | .hbm => 27
  | .vmem => 20
  | .smem => 5
  | _ => 0

abbrev bufTy : (tb : Table) → Fin (tcTables nBuf tb) → BufTy
  | .hbm, ⟨0, _⟩ => ⟨S32x8x1x32x32, .f32⟩
  | .hbm, ⟨1, _⟩ => ⟨S10x1x3x3x3, .f32⟩
  | .hbm, ⟨2, _⟩ => ⟨S10, .f32⟩
  | .hbm, ⟨3, _⟩ => ⟨S1x10x8x3x3, .f32⟩
  | .hbm, ⟨4, _⟩ => ⟨S1, .f32⟩
  | .hbm, ⟨5, _⟩ => ⟨S5x1024x8, .f32⟩
  | .hbm, ⟨6, _⟩ => ⟨S5x8x1024x2048, .f32⟩
  | .hbm, ⟨7, _⟩ => ⟨S5x8x2048, .f32⟩
  | .hbm, ⟨8, _⟩ => ⟨S5x8x2048x1024, .f32⟩
  | .hbm, ⟨9, _⟩ => ⟨S5x8x1024, .f32⟩
  | .hbm, ⟨10, _⟩ => ⟨S32x8x1024, .f32⟩
  | .hbm, ⟨11, _⟩ => ⟨S10x27, .f32⟩
  | .hbm, ⟨12, _⟩ => ⟨S1x10, .f32⟩
  | .hbm, ⟨13, _⟩ => ⟨S10x72, .f32⟩
  | .hbm, ⟨14, _⟩ => ⟨S1x1, .f32⟩
  | .hbm, ⟨15, _⟩ => ⟨S1024x5x8, .f32⟩
  | .hbm, ⟨16, _⟩ => ⟨S1024x40, .f32⟩
  | .hbm, ⟨17, _⟩ => ⟨S32x1x1024, .f32⟩
  | .hbm, ⟨18, _⟩ => ⟨S32x1024, .f32⟩
  | .hbm, ⟨19, _⟩ => ⟨S5x8x1x2048, .f32⟩
  | .hbm, ⟨20, _⟩ => ⟨S5x8x1x1024, .f32⟩
  | .hbm, ⟨21, _⟩ => ⟨S5x8x32x1024, .f32⟩
  | .hbm, ⟨22, _⟩ => ⟨S32x8x1024, .f32⟩
  | .hbm, ⟨23, _⟩ => ⟨S32x8x1024, .f32⟩
  | .hbm, ⟨24, _⟩ => ⟨S1x1, .f32⟩
  | .hbm, ⟨25, _⟩ => ⟨S32x8x1x32x32, .f32⟩
  | .hbm, ⟨26, _⟩ => ⟨S_, .f32⟩
  | .local _ .vmem, ⟨0, _⟩ => ⟨S1x8x1024, .f32⟩
  | .local _ .vmem, ⟨1, _⟩ => ⟨S1x8x1024, .f32⟩
  | .local _ .vmem, ⟨2, _⟩ => ⟨S1x1x1024, .f32⟩
  | .local _ .vmem, ⟨3, _⟩ => ⟨S1x1x1024, .f32⟩
  | .local _ .vmem, ⟨4, _⟩ => ⟨S32x1024, .f32⟩
  | .local _ .vmem, ⟨5, _⟩ => ⟨S1x1x1024x2048, .f32⟩
  | .local _ .vmem, ⟨6, _⟩ => ⟨S1x1x1024x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S1x1x2048x1024, .f32⟩
  | .local _ .vmem, ⟨10, _⟩ => ⟨S1x1x2048x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x1x32x1024, .f32⟩
  | .local _ .vmem, ⟨14, _⟩ => ⟨S1x1x32x1024, .f32⟩
  | .local _ .vmem, ⟨15, _⟩ => ⟨S32x8x1024, .f32⟩
  | .local _ .vmem, ⟨16, _⟩ => ⟨S5x8x32x1024, .f32⟩
  | .local _ .vmem, ⟨17, _⟩ => ⟨S32x1024, .f32⟩
  | .local _ .vmem, ⟨18, _⟩ => ⟨S1024x40, .f32⟩
  | .local _ .vmem, ⟨19, _⟩ => ⟨S32x8x1024, .f32⟩
  | .local _ .smem, ⟨0, _⟩ => ⟨S10x27, .f32⟩
  | .local _ .smem, ⟨1, _⟩ => ⟨S1x10, .f32⟩
  | .local _ .smem, ⟨2, _⟩ => ⟨S10x72, .f32⟩
  | .local _ .smem, ⟨3, _⟩ => ⟨S1x1, .f32⟩
  | .local _ .smem, ⟨4, _⟩ => ⟨S1x1, .f32⟩
  | _, _ => ⟨S32x8x1x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg5_0 : Ref sig .tc := ⟨.vmem, 2, rfl⟩
abbrev cc0_stg5_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc0_stg1_0 : Ref sig .tc := ⟨.smem, 0, rfl⟩
abbrev cc0_stg2_0 : Ref sig .tc := ⟨.smem, 1, rfl⟩
abbrev cc0_stg3_0 : Ref sig .tc := ⟨.smem, 2, rfl⟩
abbrev cc0_stg4_0 : Ref sig .tc := ⟨.smem, 3, rfl⟩
abbrev cc2_stg5_0 : Ref sig .tc := ⟨.smem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc2_sem0_0 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S10x27 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S10x72 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 5], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage1_0 : Fin 1 → Memref sig .tc .vmem S32x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x1x1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x32x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := .none

abbrev stage2_0 : Fin 1 → Memref sig .tc .vmem S32x8x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S5x8x32x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S32x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1024x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S32x8x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .smem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
-- ==== ReferenceIdeal.lean ====
abbrev S32x8x1x32x32 : Shape := ⟨5, ![32, 8, 1, 32, 32]⟩
abbrev S10x1x3x3x3 : Shape := ⟨5, ![10, 1, 3, 3, 3]⟩
abbrev S10 : Shape := ⟨1, ![10]⟩
abbrev S1x10x8x3x3 : Shape := ⟨5, ![1, 10, 8, 3, 3]⟩
abbrev S1 : Shape := ⟨1, ![1]⟩
abbrev S5x1024x8 : Shape := ⟨3, ![5, 1024, 8]⟩
abbrev S5x8x1024x2048 : Shape := ⟨4, ![5, 8, 1024, 2048]⟩
abbrev S5x8x2048 : Shape := ⟨3, ![5, 8, 2048]⟩
abbrev S5x8x2048x1024 : Shape := ⟨4, ![5, 8, 2048, 1024]⟩
abbrev S5x8x1024 : Shape := ⟨3, ![5, 8, 1024]⟩
abbrev S32x8x32x32 : Shape := ⟨4, ![32, 8, 32, 32]⟩
abbrev S_ : Shape := ⟨0, ![]⟩
abbrev S32x10x34x34 : Shape := ⟨4, ![32, 10, 34, 34]⟩
abbrev S32x1x8x32x32 : Shape := ⟨5, ![32, 1, 8, 32, 32]⟩
abbrev S10x1x1x1x1 : Shape := ⟨5, ![10, 1, 1, 1, 1]⟩
abbrev S1x10x1x1x1 : Shape := ⟨5, ![1, 10, 1, 1, 1]⟩
abbrev S32x10x8x32x32 : Shape := ⟨5, ![32, 10, 8, 32, 32]⟩
abbrev S32x10x8x34x34 : Shape := ⟨5, ![32, 10, 8, 34, 34]⟩
abbrev S1x10x8x1x1 : Shape := ⟨5, ![1, 10, 8, 1, 1]⟩
abbrev S10x8 : Shape := ⟨2, ![10, 8]⟩
abbrev S32x32x32 : Shape := ⟨3, ![32, 32, 32]⟩
abbrev S32x1024 : Shape := ⟨2, ![32, 1024]⟩
abbrev S5x8x32 : Shape := ⟨3, ![5, 8, 32]⟩
abbrev S5x32x8 : Shape := ⟨3, ![5, 32, 8]⟩
abbrev S160x8 : Shape := ⟨2, ![160, 8]⟩
abbrev S160x3 : Shape := ⟨2, ![160, 3]⟩
abbrev S160x2 : Shape := ⟨2, ![160, 2]⟩
abbrev S160 : Shape := ⟨1, ![160]⟩
abbrev S160x1 : Shape := ⟨2, ![160, 1]⟩
abbrev S160x2x1 : Shape := ⟨3, ![160, 2, 1]⟩
abbrev S160x2x2 : Shape := ⟨3, ![160, 2, 2]⟩
abbrev S5x8 : Shape := ⟨2, ![5, 8]⟩
abbrev S5 : Shape := ⟨1, ![5]⟩
abbrev S5x1 : Shape := ⟨2, ![5, 1]⟩
abbrev S5x8x2048x32 : Shape := ⟨4, ![5, 8, 2048, 32]⟩
abbrev S5x8x32x2048 : Shape := ⟨4, ![5, 8, 32, 2048]⟩
abbrev S5x8x1x2048 : Shape := ⟨4, ![5, 8, 1, 2048]⟩
abbrev S5x8x32x1024 : Shape := ⟨4, ![5, 8, 32, 1024]⟩
abbrev S5x8x1x1024 : Shape := ⟨4, ![5, 8, 1, 1024]⟩
abbrev S5x8x32x1 : Shape := ⟨4, ![5, 8, 32, 1]⟩
abbrev S5x32x1024 : Shape := ⟨3, ![5, 32, 1024]⟩
abbrev S5x32x1x1x32x32 : Shape := ⟨6, ![5, 32, 1, 1, 32, 32]⟩
abbrev S1x32x1x1x32x32 : Shape := ⟨6, ![1, 32, 1, 1, 32, 32]⟩
abbrev S32x1x1x32x32 : Shape := ⟨5, ![32, 1, 1, 32, 32]⟩

abbrev nBuf : Space → Nat
  | .hbm => 507
  | .vmem => 0
  | .smem => 0
  | _ => 0

abbrev hbmTy0_0 (i : Nat) : BufTy := match i % 128 with
  | 0 => ⟨S32x8x1x32x32, .f32⟩
  | 1 => ⟨S10x1x3x3x3, .f32⟩
  | 2 => ⟨S10, .f32⟩
  | 3 => ⟨S1x10x8x3x3, .f32⟩
  | 4 => ⟨S1, .f32⟩
  | 5 => ⟨S5x1024x8, .f32⟩
  | 6 => ⟨S5x8x1024x2048, .f32⟩
  | 7 => ⟨S5x8x2048, .f32⟩
  | 8 => ⟨S5x8x2048x1024, .f32⟩
  | 9 => ⟨S5x8x1024, .f32⟩
  | 10 => ⟨S32x8x32x32, .f32⟩
  | 11 => ⟨S_, .i32⟩
  | 12 => ⟨S_, .f32⟩
  | 13 => ⟨S32x10x34x34, .f32⟩
  | 14 => ⟨S32x8x32x32, .f32⟩
  | 15 => ⟨S32x1x8x32x32, .f32⟩
  | 16 => ⟨S10x1x1x1x1, .f32⟩
  | 17 => ⟨S10, .f32⟩
  | 18 => ⟨S1x10x1x1x1, .f32⟩
  | 19 => ⟨S32x10x8x32x32, .f32⟩
  | 20 => ⟨S32x10x8x32x32, .f32⟩
  | 21 => ⟨S32x10x8x32x32, .f32⟩
  | 22 => ⟨S32x8x32x32, .f32⟩
  | 23 => ⟨S32x1x8x32x32, .f32⟩
  | 24 => ⟨S10x1x1x1x1, .f32⟩
  | 25 => ⟨S10, .f32⟩
  | 26 => ⟨S1x10x1x1x1, .f32⟩
  | 27 => ⟨S32x10x8x32x32, .f32⟩
  | 28 => ⟨S32x10x8x32x32, .f32⟩
  | 29 => ⟨S32x10x8x32x32, .f32⟩
  | 30 => ⟨S32x8x32x32, .f32⟩
  | 31 => ⟨S32x1x8x32x32, .f32⟩
  | 32 => ⟨S10x1x1x1x1, .f32⟩
  | 33 => ⟨S10, .f32⟩
  | 34 => ⟨S1x10x1x1x1, .f32⟩
  | 35 => ⟨S32x10x8x32x32, .f32⟩
  | 36 => ⟨S32x10x8x32x32, .f32⟩
  | 37 => ⟨S32x10x8x32x32, .f32⟩
  | 38 => ⟨S32x8x32x32, .f32⟩
  | 39 => ⟨S32x1x8x32x32, .f32⟩
  | 40 => ⟨S10x1x1x1x1, .f32⟩
  | 41 => ⟨S10, .f32⟩
  | 42 => ⟨S1x10x1x1x1, .f32⟩
  | 43 => ⟨S32x10x8x32x32, .f32⟩
  | 44 => ⟨S32x10x8x32x32, .f32⟩
  | 45 => ⟨S32x10x8x32x32, .f32⟩
  | 46 => ⟨S32x8x32x32, .f32⟩
  | 47 => ⟨S32x1x8x32x32, .f32⟩
  | 48 => ⟨S10x1x1x1x1, .f32⟩
  | 49 => ⟨S10, .f32⟩
  | 50 => ⟨S1x10x1x1x1, .f32⟩
  | 51 => ⟨S32x10x8x32x32, .f32⟩
  | 52 => ⟨S32x10x8x32x32, .f32⟩
  | 53 => ⟨S32x10x8x32x32, .f32⟩
  | 54 => ⟨S32x8x32x32, .f32⟩
  | 55 => ⟨S32x1x8x32x32, .f32⟩
  | 56 => ⟨S10x1x1x1x1, .f32⟩
  | 57 => ⟨S10, .f32⟩
  | 58 => ⟨S1x10x1x1x1, .f32⟩
  | 59 => ⟨S32x10x8x32x32, .f32⟩
  | 60 => ⟨S32x10x8x32x32, .f32⟩
  | 61 => ⟨S32x10x8x32x32, .f32⟩
  | 62 => ⟨S32x8x32x32, .f32⟩
  | 63 => ⟨S32x1x8x32x32, .f32⟩
  | 64 => ⟨S10x1x1x1x1, .f32⟩
  | 65 => ⟨S10, .f32⟩
  | 66 => ⟨S1x10x1x1x1, .f32⟩
  | 67 => ⟨S32x10x8x32x32, .f32⟩
  | 68 => ⟨S32x10x8x32x32, .f32⟩
  | 69 => ⟨S32x10x8x32x32, .f32⟩
  | 70 => ⟨S32x8x32x32, .f32⟩
  | 71 => ⟨S32x1x8x32x32, .f32⟩
  | 72 => ⟨S10x1x1x1x1, .f32⟩
  | 73 => ⟨S10, .f32⟩
  | 74 => ⟨S1x10x1x1x1, .f32⟩
  | 75 => ⟨S32x10x8x32x32, .f32⟩
  | 76 => ⟨S32x10x8x32x32, .f32⟩
  | 77 => ⟨S32x10x8x32x32, .f32⟩
  | 78 => ⟨S32x8x32x32, .f32⟩
  | 79 => ⟨S32x1x8x32x32, .f32⟩
  | 80 => ⟨S10x1x1x1x1, .f32⟩
  | 81 => ⟨S10, .f32⟩
  | 82 => ⟨S1x10x1x1x1, .f32⟩
  | 83 => ⟨S32x10x8x32x32, .f32⟩
  | 84 => ⟨S32x10x8x32x32, .f32⟩
  | 85 => ⟨S32x10x8x32x32, .f32⟩
  | 86 => ⟨S32x8x32x32, .f32⟩
  | 87 => ⟨S32x1x8x32x32, .f32⟩
  | 88 => ⟨S10x1x1x1x1, .f32⟩
  | 89 => ⟨S10, .f32⟩
  | 90 => ⟨S1x10x1x1x1, .f32⟩
  | 91 => ⟨S32x10x8x32x32, .f32⟩
  | 92 => ⟨S32x10x8x32x32, .f32⟩
  | 93 => ⟨S32x10x8x32x32, .f32⟩
  | 94 => ⟨S32x8x32x32, .f32⟩
  | 95 => ⟨S32x1x8x32x32, .f32⟩
  | 96 => ⟨S10x1x1x1x1, .f32⟩
  | 97 => ⟨S10, .f32⟩
  | 98 => ⟨S1x10x1x1x1, .f32⟩
  | 99 => ⟨S32x10x8x32x32, .f32⟩
  | 100 => ⟨S32x10x8x32x32, .f32⟩
  | 101 => ⟨S32x10x8x32x32, .f32⟩
  | 102 => ⟨S32x8x32x32, .f32⟩
  | 103 => ⟨S32x1x8x32x32, .f32⟩
  | 104 => ⟨S10x1x1x1x1, .f32⟩
  | 105 => ⟨S10, .f32⟩
  | 106 => ⟨S1x10x1x1x1, .f32⟩
  | 107 => ⟨S32x10x8x32x32, .f32⟩
  | 108 => ⟨S32x10x8x32x32, .f32⟩
  | 109 => ⟨S32x10x8x32x32, .f32⟩
  | 110 => ⟨S32x8x32x32, .f32⟩
  | 111 => ⟨S32x1x8x32x32, .f32⟩
  | 112 => ⟨S10x1x1x1x1, .f32⟩
  | 113 => ⟨S10, .f32⟩
  | 114 => ⟨S1x10x1x1x1, .f32⟩
  | 115 => ⟨S32x10x8x32x32, .f32⟩
  | 116 => ⟨S32x10x8x32x32, .f32⟩
  | 117 => ⟨S32x10x8x32x32, .f32⟩
  | 118 => ⟨S32x8x32x32, .f32⟩
  | 119 => ⟨S32x1x8x32x32, .f32⟩
  | 120 => ⟨S10x1x1x1x1, .f32⟩
  | 121 => ⟨S10, .f32⟩
  | 122 => ⟨S1x10x1x1x1, .f32⟩
  | 123 => ⟨S32x10x8x32x32, .f32⟩
  | 124 => ⟨S32x10x8x32x32, .f32⟩
  | 125 => ⟨S32x10x8x32x32, .f32⟩
  | 126 => ⟨S32x8x32x32, .f32⟩
  | 127 => ⟨S32x1x8x32x32, .f32⟩
  | _ => ⟨S32x8x1x32x32, .f32⟩

abbrev hbmTy0_1 (i : Nat) : BufTy := match i % 128 with
  | 0 => ⟨S10x1x1x1x1, .f32⟩
  | 1 => ⟨S10, .f32⟩
  | 2 => ⟨S1x10x1x1x1, .f32⟩
  | 3 => ⟨S32x10x8x32x32, .f32⟩
  | 4 => ⟨S32x10x8x32x32, .f32⟩
  | 5 => ⟨S32x10x8x32x32, .f32⟩
  | 6 => ⟨S32x8x32x32, .f32⟩
  | 7 => ⟨S32x1x8x32x32, .f32⟩
  | 8 => ⟨S10x1x1x1x1, .f32⟩
  | 9 => ⟨S10, .f32⟩
  | 10 => ⟨S1x10x1x1x1, .f32⟩
  | 11 => ⟨S32x10x8x32x32, .f32⟩
  | 12 => ⟨S32x10x8x32x32, .f32⟩
  | 13 => ⟨S32x10x8x32x32, .f32⟩
  | 14 => ⟨S32x8x32x32, .f32⟩
  | 15 => ⟨S32x1x8x32x32, .f32⟩
  | 16 => ⟨S10x1x1x1x1, .f32⟩
  | 17 => ⟨S10, .f32⟩
  | 18 => ⟨S1x10x1x1x1, .f32⟩
  | 19 => ⟨S32x10x8x32x32, .f32⟩
  | 20 => ⟨S32x10x8x32x32, .f32⟩
  | 21 => ⟨S32x10x8x32x32, .f32⟩
  | 22 => ⟨S32x8x32x32, .f32⟩
  | 23 => ⟨S32x1x8x32x32, .f32⟩
  | 24 => ⟨S10x1x1x1x1, .f32⟩
  | 25 => ⟨S10, .f32⟩
  | 26 => ⟨S1x10x1x1x1, .f32⟩
  | 27 => ⟨S32x10x8x32x32, .f32⟩
  | 28 => ⟨S32x10x8x32x32, .f32⟩
  | 29 => ⟨S32x10x8x32x32, .f32⟩
  | 30 => ⟨S32x8x32x32, .f32⟩
  | 31 => ⟨S32x1x8x32x32, .f32⟩
  | 32 => ⟨S10x1x1x1x1, .f32⟩
  | 33 => ⟨S10, .f32⟩
  | 34 => ⟨S1x10x1x1x1, .f32⟩
  | 35 => ⟨S32x10x8x32x32, .f32⟩
  | 36 => ⟨S32x10x8x32x32, .f32⟩
  | 37 => ⟨S32x10x8x32x32, .f32⟩
  | 38 => ⟨S32x8x32x32, .f32⟩
  | 39 => ⟨S32x1x8x32x32, .f32⟩
  | 40 => ⟨S10x1x1x1x1, .f32⟩
  | 41 => ⟨S10, .f32⟩
  | 42 => ⟨S1x10x1x1x1, .f32⟩
  | 43 => ⟨S32x10x8x32x32, .f32⟩
  | 44 => ⟨S32x10x8x32x32, .f32⟩
  | 45 => ⟨S32x10x8x32x32, .f32⟩
  | 46 => ⟨S32x8x32x32, .f32⟩
  | 47 => ⟨S32x1x8x32x32, .f32⟩
  | 48 => ⟨S10x1x1x1x1, .f32⟩
  | 49 => ⟨S10, .f32⟩
  | 50 => ⟨S1x10x1x1x1, .f32⟩
  | 51 => ⟨S32x10x8x32x32, .f32⟩
  | 52 => ⟨S32x10x8x32x32, .f32⟩
  | 53 => ⟨S32x10x8x32x32, .f32⟩
  | 54 => ⟨S32x8x32x32, .f32⟩
  | 55 => ⟨S32x1x8x32x32, .f32⟩
  | 56 => ⟨S10x1x1x1x1, .f32⟩
  | 57 => ⟨S10, .f32⟩
  | 58 => ⟨S1x10x1x1x1, .f32⟩
  | 59 => ⟨S32x10x8x32x32, .f32⟩
  | 60 => ⟨S32x10x8x32x32, .f32⟩
  | 61 => ⟨S32x10x8x32x32, .f32⟩
  | 62 => ⟨S32x8x32x32, .f32⟩
  | 63 => ⟨S32x1x8x32x32, .f32⟩
  | 64 => ⟨S10x1x1x1x1, .f32⟩
  | 65 => ⟨S10, .f32⟩
  | 66 => ⟨S1x10x1x1x1, .f32⟩
  | 67 => ⟨S32x10x8x32x32, .f32⟩
  | 68 => ⟨S32x10x8x32x32, .f32⟩
  | 69 => ⟨S32x10x8x32x32, .f32⟩
  | 70 => ⟨S32x8x32x32, .f32⟩
  | 71 => ⟨S32x1x8x32x32, .f32⟩
  | 72 => ⟨S10x1x1x1x1, .f32⟩
  | 73 => ⟨S10, .f32⟩
  | 74 => ⟨S1x10x1x1x1, .f32⟩
  | 75 => ⟨S32x10x8x32x32, .f32⟩
  | 76 => ⟨S32x10x8x32x32, .f32⟩
  | 77 => ⟨S32x10x8x32x32, .f32⟩
  | 78 => ⟨S32x8x32x32, .f32⟩
  | 79 => ⟨S32x1x8x32x32, .f32⟩
  | 80 => ⟨S10x1x1x1x1, .f32⟩
  | 81 => ⟨S10, .f32⟩
  | 82 => ⟨S1x10x1x1x1, .f32⟩
  | 83 => ⟨S32x10x8x32x32, .f32⟩
  | 84 => ⟨S32x10x8x32x32, .f32⟩
  | 85 => ⟨S32x10x8x32x32, .f32⟩
  | 86 => ⟨S32x8x32x32, .f32⟩
  | 87 => ⟨S32x1x8x32x32, .f32⟩
  | 88 => ⟨S10x1x1x1x1, .f32⟩
  | 89 => ⟨S10, .f32⟩
  | 90 => ⟨S1x10x1x1x1, .f32⟩
  | 91 => ⟨S32x10x8x32x32, .f32⟩
  | 92 => ⟨S32x10x8x32x32, .f32⟩
  | 93 => ⟨S32x10x8x32x32, .f32⟩
  | 94 => ⟨S32x8x32x32, .f32⟩
  | 95 => ⟨S32x1x8x32x32, .f32⟩
  | 96 => ⟨S10x1x1x1x1, .f32⟩
  | 97 => ⟨S10, .f32⟩
  | 98 => ⟨S1x10x1x1x1, .f32⟩
  | 99 => ⟨S32x10x8x32x32, .f32⟩
  | 100 => ⟨S32x10x8x32x32, .f32⟩
  | 101 => ⟨S32x10x8x32x32, .f32⟩
  | 102 => ⟨S32x10x8x32x32, .f32⟩
  | 103 => ⟨S32x10x8x32x32, .f32⟩
  | 104 => ⟨S32x10x8x32x32, .f32⟩
  | 105 => ⟨S32x10x8x32x32, .f32⟩
  | 106 => ⟨S32x10x8x32x32, .f32⟩
  | 107 => ⟨S32x10x8x32x32, .f32⟩
  | 108 => ⟨S32x10x8x32x32, .f32⟩
  | 109 => ⟨S32x10x8x32x32, .f32⟩
  | 110 => ⟨S32x10x8x32x32, .f32⟩
  | 111 => ⟨S32x10x8x32x32, .f32⟩
  | 112 => ⟨S32x10x8x32x32, .f32⟩
  | 113 => ⟨S32x10x8x32x32, .f32⟩
  | 114 => ⟨S32x10x8x32x32, .f32⟩
  | 115 => ⟨S32x10x8x32x32, .f32⟩
  | 116 => ⟨S32x10x8x32x32, .f32⟩
  | 117 => ⟨S32x10x8x32x32, .f32⟩
  | 118 => ⟨S32x10x8x32x32, .f32⟩
  | 119 => ⟨S32x10x8x32x32, .f32⟩
  | 120 => ⟨S32x10x8x32x32, .f32⟩
  | 121 => ⟨S32x10x8x32x32, .f32⟩
  | 122 => ⟨S32x10x8x32x32, .f32⟩
  | 123 => ⟨S32x10x8x32x32, .f32⟩
  | 124 => ⟨S32x10x8x32x32, .f32⟩
  | 125 => ⟨S32x10x8x32x32, .f32⟩
  | 126 => ⟨S32x10x8x32x32, .f32⟩
  | 127 => ⟨S32x10x8x32x32, .f32⟩
  | _ => ⟨S32x8x1x32x32, .f32⟩

abbrev hbmTy0_2 (i : Nat) : BufTy := match i % 128 with
  | 0 => ⟨S1x10x1x1x1, .f32⟩
  | 1 => ⟨S32x10x8x32x32, .f32⟩
  | 2 => ⟨S32x10x8x32x32, .f32⟩
  | 3 => ⟨S_, .f32⟩
  | 4 => ⟨S32x10x8x32x32, .f32⟩
  | 5 => ⟨S32x10x8x32x32, .f32⟩
  | 6 => ⟨S_, .i32⟩
  | 7 => ⟨S_, .f32⟩
  | 8 => ⟨S32x10x8x34x34, .f32⟩
  | 9 => ⟨S32x10x8x32x32, .f32⟩
  | 10 => ⟨S1x10x8x1x1, .f32⟩
  | 11 => ⟨S10x8, .f32⟩
  | 12 => ⟨S32x32x32, .f32⟩
  | 13 => ⟨S32x10x8x32x32, .f32⟩
  | 14 => ⟨S1x10x8x1x1, .f32⟩
  | 15 => ⟨S10x8, .f32⟩
  | 16 => ⟨S32x32x32, .f32⟩
  | 17 => ⟨S32x10x8x32x32, .f32⟩
  | 18 => ⟨S1x10x8x1x1, .f32⟩
  | 19 => ⟨S10x8, .f32⟩
  | 20 => ⟨S32x32x32, .f32⟩
  | 21 => ⟨S32x10x8x32x32, .f32⟩
  | 22 => ⟨S1x10x8x1x1, .f32⟩
  | 23 => ⟨S10x8, .f32⟩
  | 24 => ⟨S32x32x32, .f32⟩
  | 25 => ⟨S32x10x8x32x32, .f32⟩
  | 26 => ⟨S1x10x8x1x1, .f32⟩
  | 27 => ⟨S10x8, .f32⟩
  | 28 => ⟨S32x32x32, .f32⟩
  | 29 => ⟨S32x10x8x32x32, .f32⟩
  | 30 => ⟨S1x10x8x1x1, .f32⟩
  | 31 => ⟨S10x8, .f32⟩
  | 32 => ⟨S32x32x32, .f32⟩
  | 33 => ⟨S32x10x8x32x32, .f32⟩
  | 34 => ⟨S1x10x8x1x1, .f32⟩
  | 35 => ⟨S10x8, .f32⟩
  | 36 => ⟨S32x32x32, .f32⟩
  | 37 => ⟨S32x10x8x32x32, .f32⟩
  | 38 => ⟨S1x10x8x1x1, .f32⟩
  | 39 => ⟨S10x8, .f32⟩
  | 40 => ⟨S32x32x32, .f32⟩
  | 41 => ⟨S32x10x8x32x32, .f32⟩
  | 42 => ⟨S1x10x8x1x1, .f32⟩
  | 43 => ⟨S10x8, .f32⟩
  | 44 => ⟨S32x32x32, .f32⟩
  | 45 => ⟨S32x32x32, .f32⟩
  | 46 => ⟨S32x32x32, .f32⟩
  | 47 => ⟨S32x32x32, .f32⟩
  | 48 => ⟨S32x32x32, .f32⟩
  | 49 => ⟨S32x32x32, .f32⟩
  | 50 => ⟨S32x32x32, .f32⟩
  | 51 => ⟨S32x32x32, .f32⟩
  | 52 => ⟨S32x32x32, .f32⟩
  | 53 => ⟨S_, .f32⟩
  | 54 => ⟨S32x32x32, .f32⟩
  | 55 => ⟨S32x32x32, .f32⟩
  | 56 => ⟨S_, .f32⟩
  | 57 => ⟨S32x32x32, .f32⟩
  | 58 => ⟨S32x32x32, .f32⟩
  | 59 => ⟨S32x1024, .f32⟩
  | 60 => ⟨S5x8x32, .f32⟩
  | 61 => ⟨S5x32x8, .f32⟩
  | 62 => ⟨S160x8, .f32⟩
  | 63 => ⟨S160x3, .f32⟩
  | 64 => ⟨S160x3, .i32⟩
  | 65 => ⟨S160x2, .f32⟩
  | 66 => ⟨S_, .f32⟩
  | 67 => ⟨S160, .f32⟩
  | 68 => ⟨S_, .f32⟩
  | 69 => ⟨S160, .f32⟩
  | 70 => ⟨S160, .f32⟩
  | 71 => ⟨S160x1, .f32⟩
  | 72 => ⟨S160x2, .f32⟩
  | 73 => ⟨S160x2, .f32⟩
  | 74 => ⟨S160x2, .f32⟩
  | 75 => ⟨S_, .f32⟩
  | 76 => ⟨S160, .f32⟩
  | 77 => ⟨S160x1, .f32⟩
  | 78 => ⟨S160x2, .f32⟩
  | 79 => ⟨S160x2, .f32⟩
  | 80 => ⟨S_, .f32⟩
  | 81 => ⟨S160x8, .f32⟩
  | 82 => ⟨S160, .i32⟩
  | 83 => ⟨S160x1, .i32⟩
  | 84 => ⟨S160x2, .i32⟩
  | 85 => ⟨S_, .i32⟩
  | 86 => ⟨S160x1, .i32⟩
  | 87 => ⟨S160x1, .i1⟩
  | 88 => ⟨S_, .i32⟩
  | 89 => ⟨S160x1, .i32⟩
  | 90 => ⟨S160x1, .i32⟩
  | 91 => ⟨S160x1, .i32⟩
  | 92 => ⟨S_, .i32⟩
  | 93 => ⟨S160x2, .i32⟩
  | 94 => ⟨S160x2, .i1⟩
  | 95 => ⟨S_, .i32⟩
  | 96 => ⟨S160x2, .i32⟩
  | 97 => ⟨S160x2, .i32⟩
  | 98 => ⟨S160x2, .i32⟩
  | 99 => ⟨S160x2, .i32⟩
  | 100 => ⟨S160x2x1, .i32⟩
  | 101 => ⟨S160x2x1, .i32⟩
  | 102 => ⟨S160x2x2, .i32⟩
  | 103 => ⟨S160x8, .f32⟩
  | 104 => ⟨S5x32x8, .f32⟩
  | 105 => ⟨S_, .f32⟩
  | 106 => ⟨S5x8, .f32⟩
  | 107 => ⟨S_, .f32⟩
  | 108 => ⟨S5x32x8, .f32⟩
  | 109 => ⟨S5x32x8, .i1⟩
  | 110 => ⟨S5x32x8, .i32⟩
  | 111 => ⟨S_, .i32⟩
  | 112 => ⟨S5x8, .i32⟩
  | 113 => ⟨S5x8, .f32⟩
  | 114 => ⟨S_, .i32⟩
  | 115 => ⟨S_, .f32⟩
  | 116 => ⟨S5, .f32⟩
  | 117 => ⟨S5x1, .f32⟩
  | 118 => ⟨S_, .f32⟩
  | 119 => ⟨S5x1, .f32⟩
  | 120 => ⟨S5x1, .f32⟩
  | 121 => ⟨S5x8, .f32⟩
  | 122 => ⟨S5x8, .f32⟩
  | 123 => ⟨S5x8, .f32⟩
  | 124 => ⟨S_, .f32⟩
  | 125 => ⟨S_, .f32⟩
  | 126 => ⟨S_, .f32⟩
  | 127 => ⟨S_, .f32⟩
  | _ => ⟨S32x8x1x32x32, .f32⟩

abbrev hbmTy0_3 (i : Nat) : BufTy := match i % 128 with
  | 0 => ⟨S5, .f32⟩
  | 1 => ⟨S5, .f32⟩
  | 2 => ⟨S5, .f32⟩
  | 3 => ⟨S_, .f32⟩
  | 4 => ⟨S_, .i1⟩
  | 5 => ⟨S_, .f32⟩
  | 6 => ⟨S_, .f32⟩
  | 7 => ⟨S5, .f32⟩
  | 8 => ⟨S5, .f32⟩
  | 9 => ⟨S_, .f32⟩
  | 10 => ⟨S5, .f32⟩
  | 11 => ⟨S_, .f32⟩
  | 12 => ⟨S5, .f32⟩
  | 13 => ⟨S5, .f32⟩
  | 14 => ⟨S5, .f32⟩
  | 15 => ⟨S_, .f32⟩
  | 16 => ⟨S5, .f32⟩
  | 17 => ⟨S5, .f32⟩
  | 18 => ⟨S5, .f32⟩
  | 19 => ⟨S_, .i32⟩
  | 20 => ⟨S_, .f32⟩
  | 21 => ⟨S5, .f32⟩
  | 22 => ⟨S5x1, .f32⟩
  | 23 => ⟨S_, .f32⟩
  | 24 => ⟨S5x1, .f32⟩
  | 25 => ⟨S5x1, .f32⟩
  | 26 => ⟨S5x8, .f32⟩
  | 27 => ⟨S5x8, .f32⟩
  | 28 => ⟨S5x8, .f32⟩
  | 29 => ⟨S_, .f32⟩
  | 30 => ⟨S_, .f32⟩
  | 31 => ⟨S_, .f32⟩
  | 32 => ⟨S_, .f32⟩
  | 33 => ⟨S5, .f32⟩
  | 34 => ⟨S5, .f32⟩
  | 35 => ⟨S5, .f32⟩
  | 36 => ⟨S_, .f32⟩
  | 37 => ⟨S_, .i1⟩
  | 38 => ⟨S_, .f32⟩
  | 39 => ⟨S_, .f32⟩
  | 40 => ⟨S5, .f32⟩
  | 41 => ⟨S5, .f32⟩
  | 42 => ⟨S_, .f32⟩
  | 43 => ⟨S5, .f32⟩
  | 44 => ⟨S_, .f32⟩
  | 45 => ⟨S5, .f32⟩
  | 46 => ⟨S5, .f32⟩
  | 47 => ⟨S5, .f32⟩
  | 48 => ⟨S_, .f32⟩
  | 49 => ⟨S5, .f32⟩
  | 50 => ⟨S5, .f32⟩
  | 51 => ⟨S5, .f32⟩
  | 52 => ⟨S5, .f32⟩
  | 53 => ⟨S_, .f32⟩
  | 54 => ⟨S5, .f32⟩
  | 55 => ⟨S5, .f32⟩
  | 56 => ⟨S_, .f32⟩
  | 57 => ⟨S_, .f32⟩
  | 58 => ⟨S5x8x2048x32, .f32⟩
  | 59 => ⟨S5x8x32x2048, .f32⟩
  | 60 => ⟨S5x8x1x2048, .f32⟩
  | 61 => ⟨S5x8x32x2048, .f32⟩
  | 62 => ⟨S5x8x32x2048, .f32⟩
  | 63 => ⟨S_, .f32⟩
  | 64 => ⟨S5x8x32x2048, .f32⟩
  | 65 => ⟨S5x8x32x2048, .f32⟩
  | 66 => ⟨S5x8x32x1024, .f32⟩
  | 67 => ⟨S5x8x1x1024, .f32⟩
  | 68 => ⟨S5x8x32x1024, .f32⟩
  | 69 => ⟨S5x8x32x1024, .f32⟩
  | 70 => ⟨S_, .f32⟩
  | 71 => ⟨S5x8x32, .f32⟩
  | 72 => ⟨S_, .f32⟩
  | 73 => ⟨S5x8x32, .f32⟩
  | 74 => ⟨S5x8x32, .f32⟩
  | 75 => ⟨S5x8x32x1, .f32⟩
  | 76 => ⟨S5x8x32x1024, .f32⟩
  | 77 => ⟨S5x8x32x1024, .f32⟩
  | 78 => ⟨S5x8x32x1024, .f32⟩
  | 79 => ⟨S_, .f32⟩
  | 80 => ⟨S5x8x32, .f32⟩
  | 81 => ⟨S5x8x32x1, .f32⟩
  | 82 => ⟨S5x8x32x1024, .f32⟩
  | 83 => ⟨S5x8x32x1024, .f32⟩
  | 84 => ⟨S5x32x1024, .f32⟩
  | 85 => ⟨S5x32x1x1x32x32, .f32⟩
  | 86 => ⟨S1x32x1x1x32x32, .f32⟩
  | 87 => ⟨S32x1x1x32x32, .f32⟩
  | 88 => ⟨S1x32x1x1x32x32, .f32⟩
  | 89 => ⟨S32x1x1x32x32, .f32⟩
  | 90 => ⟨S1x32x1x1x32x32, .f32⟩
  | 91 => ⟨S32x1x1x32x32, .f32⟩
  | 92 => ⟨S1x32x1x1x32x32, .f32⟩
  | 93 => ⟨S32x1x1x32x32, .f32⟩
  | 94 => ⟨S1x32x1x1x32x32, .f32⟩
  | 95 => ⟨S32x1x1x32x32, .f32⟩
  | 96 => ⟨S32x8x1x32x32, .f32⟩
  | 97 => ⟨S32x8x1x32x32, .f32⟩
  | 98 => ⟨S32x8x1x32x32, .f32⟩
  | 99 => ⟨S32x8x1x32x32, .f32⟩
  | 100 => ⟨S32x8x1x32x32, .f32⟩
  | 101 => ⟨S32x8x1x32x32, .f32⟩
  | 102 => ⟨S32x8x1x32x32, .f32⟩
  | 103 => ⟨S32x8x1x32x32, .f32⟩
  | 104 => ⟨S32x8x1x32x32, .f32⟩
  | 105 => ⟨S32x8x1x32x32, .f32⟩
  | 106 => ⟨S32x8x1x32x32, .f32⟩
  | 107 => ⟨S32x8x1x32x32, .f32⟩
  | 108 => ⟨S32x8x1x32x32, .f32⟩
  | 109 => ⟨S32x8x1x32x32, .f32⟩
  | 110 => ⟨S32x8x1x32x32, .f32⟩
  | 111 => ⟨S32x8x1x32x32, .f32⟩
  | 112 => ⟨S32x8x1x32x32, .f32⟩
  | 113 => ⟨S32x8x1x32x32, .f32⟩
  | 114 => ⟨S32x8x1x32x32, .f32⟩
  | 115 => ⟨S32x8x1x32x32, .f32⟩
  | 116 => ⟨S32x8x1x32x32, .f32⟩
  | 117 => ⟨S_, .f32⟩
  | 118 => ⟨S32x8x1x32x32, .f32⟩
  | 119 => ⟨S32x8x1x32x32, .f32⟩
  | 120 => ⟨S_, .f32⟩
  | 121 => ⟨S32x8x1x32x32, .f32⟩
  | 122 => ⟨S32x8x1x32x32, .f32⟩
  | _ => ⟨S32x8x1x32x32, .f32⟩

abbrev hbmTy (i : Nat) : BufTy := match i / 128 with
  | 0 => hbmTy0_0 i
  | 1 => hbmTy0_1 i
  | 2 => hbmTy0_2 i
  | 3 => hbmTy0_3 i
  | _ => ⟨S32x8x1x32x32, .f32⟩

abbrev bufTy : (tb : Table) → Fin (tcTables nBuf tb) → BufTy
  | .hbm, ⟨i, _⟩ => hbmTy i
  | _, _ => ⟨S32x8x1x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_call1_cst : Ref sig .tc := ⟨.hbm, 259, rfl⟩
abbrev main_call1_v0 : Ref sig .tc := ⟨.hbm, 260, rfl⟩
abbrev main_v247 : Ref sig .tc := ⟨.hbm, 261, rfl⟩
abbrev main_c_0 : Ref sig .tc := ⟨.hbm, 262, rfl⟩
abbrev main_call2_v0 : Ref sig .tc := ⟨.hbm, 263, rfl⟩
abbrev main_v248 : Ref sig .tc := ⟨.hbm, 264, rfl⟩
abbrev main_v249 : Ref sig .tc := ⟨.hbm, 265, rfl⟩
abbrev main_v250 : Ref sig .tc := ⟨.hbm, 266, rfl⟩
abbrev main_v251 : Ref sig .tc := ⟨.hbm, 267, rfl⟩
abbrev main_v252 : Ref sig .tc := ⟨.hbm, 268, rfl⟩
abbrev main_v253 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_v264 : Ref sig .tc := ⟨.hbm, 280, rfl⟩
abbrev main_v265 : Ref sig .tc := ⟨.hbm, 281, rfl⟩
abbrev main_v266 : Ref sig .tc := ⟨.hbm, 282, rfl⟩
abbrev main_v267 : Ref sig .tc := ⟨.hbm, 283, rfl⟩
abbrev main_v268 : Ref sig .tc := ⟨.hbm, 284, rfl⟩
abbrev main_v269 : Ref sig .tc := ⟨.hbm, 285, rfl⟩
abbrev main_v270 : Ref sig .tc := ⟨.hbm, 286, rfl⟩
abbrev main_v271 : Ref sig .tc := ⟨.hbm, 287, rfl⟩
abbrev main_v272 : Ref sig .tc := ⟨.hbm, 288, rfl⟩
abbrev main_v273 : Ref sig .tc := ⟨.hbm, 289, rfl⟩
abbrev main_v274 : Ref sig .tc := ⟨.hbm, 290, rfl⟩
abbrev main_v275 : Ref sig .tc := ⟨.hbm, 291, rfl⟩
abbrev main_v276 : Ref sig .tc := ⟨.hbm, 292, rfl⟩
abbrev main_v277 : Ref sig .tc := ⟨.hbm, 293, rfl⟩
abbrev main_v278 : Ref sig .tc := ⟨.hbm, 294, rfl⟩
abbrev main_v279 : Ref sig .tc := ⟨.hbm, 295, rfl⟩
abbrev main_v280 : Ref sig .tc := ⟨.hbm, 296, rfl⟩
abbrev main_v281 : Ref sig .tc := ⟨.hbm, 297, rfl⟩
abbrev main_v282 : Ref sig .tc := ⟨.hbm, 298, rfl⟩
abbrev main_v283 : Ref sig .tc := ⟨.hbm, 299, rfl⟩
abbrev main_v284 : Ref sig .tc := ⟨.hbm, 300, rfl⟩
abbrev main_v285 : Ref sig .tc := ⟨.hbm, 301, rfl⟩
abbrev main_v286 : Ref sig .tc := ⟨.hbm, 302, rfl⟩
abbrev main_v287 : Ref sig .tc := ⟨.hbm, 303, rfl⟩
abbrev main_v288 : Ref sig .tc := ⟨.hbm, 304, rfl⟩
abbrev main_v289 : Ref sig .tc := ⟨.hbm, 305, rfl⟩
abbrev main_v290 : Ref sig .tc := ⟨.hbm, 306, rfl⟩
abbrev main_v291 : Ref sig .tc := ⟨.hbm, 307, rfl⟩
abbrev main_v292 : Ref sig .tc := ⟨.hbm, 308, rfl⟩
abbrev main_v293 : Ref sig .tc := ⟨.hbm, 309, rfl⟩
abbrev main_v294 : Ref sig .tc := ⟨.hbm, 310, rfl⟩
abbrev main_v295 : Ref sig .tc := ⟨.hbm, 311, rfl⟩
abbrev main_call3_cst : Ref sig .tc := ⟨.hbm, 312, rfl⟩
abbrev main_call3_v0 : Ref sig .tc := ⟨.hbm, 313, rfl⟩
abbrev main_v296 : Ref sig .tc := ⟨.hbm, 314, rfl⟩
abbrev main_v297 : Ref sig .tc := ⟨.hbm, 315, rfl⟩
abbrev main_v298 : Ref sig .tc := ⟨.hbm, 316, rfl⟩
abbrev main_v299 : Ref sig .tc := ⟨.hbm, 317, rfl⟩
abbrev main_v300 : Ref sig .tc := ⟨.hbm, 318, rfl⟩
abbrev main_values : Ref sig .tc := ⟨.hbm, 319, rfl⟩
abbrev main_indices : Ref sig .tc := ⟨.hbm, 320, rfl⟩
abbrev main_v301 : Ref sig .tc := ⟨.hbm, 321, rfl⟩
abbrev main_cst : Ref sig .tc := ⟨.hbm, 322, rfl⟩
abbrev main_v302 : Ref sig .tc := ⟨.hbm, 323, rfl⟩
abbrev main_cst_1 : Ref sig .tc := ⟨.hbm, 324, rfl⟩
abbrev main_v303 : Ref sig .tc := ⟨.hbm, 325, rfl⟩
abbrev main_v304 : Ref sig .tc := ⟨.hbm, 326, rfl⟩
abbrev main_v305 : Ref sig .tc := ⟨.hbm, 327, rfl⟩
abbrev main_v306 : Ref sig .tc := ⟨.hbm, 328, rfl⟩
abbrev main_v307 : Ref sig .tc := ⟨.hbm, 329, rfl⟩
abbrev main_v308 : Ref sig .tc := ⟨.hbm, 330, rfl⟩
abbrev main_cst_2 : Ref sig .tc := ⟨.hbm, 331, rfl⟩
abbrev main_v309 : Ref sig .tc := ⟨.hbm, 332, rfl⟩
abbrev main_v310 : Ref sig .tc := ⟨.hbm, 333, rfl⟩
abbrev main_v311 : Ref sig .tc := ⟨.hbm, 334, rfl⟩
abbrev main_v312 : Ref sig .tc := ⟨.hbm, 335, rfl⟩
abbrev main_cst_3 : Ref sig .tc := ⟨.hbm, 336, rfl⟩
abbrev main_v313 : Ref sig .tc := ⟨.hbm, 337, rfl⟩
abbrev main_v314 : Ref sig .tc := ⟨.hbm, 338, rfl⟩
abbrev main_v315 : Ref sig .tc := ⟨.hbm, 339, rfl⟩
abbrev main_v316 : Ref sig .tc := ⟨.hbm, 340, rfl⟩
abbrev main_c_4 : Ref sig .tc := ⟨.hbm, 341, rfl⟩
abbrev main_v317 : Ref sig .tc := ⟨.hbm, 342, rfl⟩
abbrev main_v318 : Ref sig .tc := ⟨.hbm, 343, rfl⟩
abbrev main_c_5 : Ref sig .tc := ⟨.hbm, 344, rfl⟩
abbrev main_v319 : Ref sig .tc := ⟨.hbm, 345, rfl⟩
abbrev main_v320 : Ref sig .tc := ⟨.hbm, 346, rfl⟩
abbrev main_v321 : Ref sig .tc := ⟨.hbm, 347, rfl⟩
abbrev main_c_6 : Ref sig .tc := ⟨.hbm, 348, rfl⟩
abbrev main_v322 : Ref sig .tc := ⟨.hbm, 349, rfl⟩
abbrev main_v323 : Ref sig .tc := ⟨.hbm, 350, rfl⟩
abbrev main_c_7 : Ref sig .tc := ⟨.hbm, 351, rfl⟩
abbrev main_v324 : Ref sig .tc := ⟨.hbm, 352, rfl⟩
abbrev main_v325 : Ref sig .tc := ⟨.hbm, 353, rfl⟩
abbrev main_v326 : Ref sig .tc := ⟨.hbm, 354, rfl⟩
abbrev main_v327 : Ref sig .tc := ⟨.hbm, 355, rfl⟩
abbrev main_v328 : Ref sig .tc := ⟨.hbm, 356, rfl⟩
abbrev main_v329 : Ref sig .tc := ⟨.hbm, 357, rfl⟩
abbrev main_v330 : Ref sig .tc := ⟨.hbm, 358, rfl⟩
abbrev main_v331 : Ref sig .tc := ⟨.hbm, 359, rfl⟩
abbrev main_v332 : Ref sig .tc := ⟨.hbm, 360, rfl⟩
abbrev main_cst_8 : Ref sig .tc := ⟨.hbm, 361, rfl⟩
abbrev main_v333 : Ref sig .tc := ⟨.hbm, 362, rfl⟩
abbrev main_cst_9 : Ref sig .tc := ⟨.hbm, 363, rfl⟩
abbrev main_v334 : Ref sig .tc := ⟨.hbm, 364, rfl⟩
abbrev main_v335 : Ref sig .tc := ⟨.hbm, 365, rfl⟩
abbrev main_v336 : Ref sig .tc := ⟨.hbm, 366, rfl⟩
abbrev main_c_10 : Ref sig .tc := ⟨.hbm, 367, rfl⟩
abbrev main_v337 : Ref sig .tc := ⟨.hbm, 368, rfl⟩
abbrev main_v338 : Ref sig .tc := ⟨.hbm, 369, rfl⟩
abbrev main_c_11 : Ref sig .tc := ⟨.hbm, 370, rfl⟩
abbrev main_call4_cst : Ref sig .tc := ⟨.hbm, 371, rfl⟩
abbrev main_call4_v0 : Ref sig .tc := ⟨.hbm, 372, rfl⟩
abbrev main_call4_v1 : Ref sig .tc := ⟨.hbm, 373, rfl⟩
abbrev main_call4_cst_0 : Ref sig .tc := ⟨.hbm, 374, rfl⟩
abbrev main_call4_v2 : Ref sig .tc := ⟨.hbm, 375, rfl⟩
abbrev main_call4_v3 : Ref sig .tc := ⟨.hbm, 376, rfl⟩
abbrev main_call4_v4 : Ref sig .tc := ⟨.hbm, 377, rfl⟩
abbrev main_call4_v5 : Ref sig .tc := ⟨.hbm, 378, rfl⟩
abbrev main_call4_v6 : Ref sig .tc := ⟨.hbm, 379, rfl⟩
abbrev main_call4_v7 : Ref sig .tc := ⟨.hbm, 380, rfl⟩
abbrev main_call4_cst_1 : Ref sig .tc := ⟨.hbm, 381, rfl⟩
abbrev main_call4_v8 : Ref sig .tc := ⟨.hbm, 382, rfl⟩
abbrev main_call4_cst_2 : Ref sig .tc := ⟨.hbm, 383, rfl⟩
abbrev main_call4_v9 : Ref sig .tc := ⟨.hbm, 384, rfl⟩
abbrev main_call4_v10 : Ref sig .tc := ⟨.hbm, 385, rfl⟩
abbrev main_call4_v11 : Ref sig .tc := ⟨.hbm, 386, rfl⟩
abbrev main_call4_cst_3 : Ref sig .tc := ⟨.hbm, 387, rfl⟩
abbrev main_call4_v12 : Ref sig .tc := ⟨.hbm, 388, rfl⟩
abbrev main_call4_cst_4 : Ref sig .tc := ⟨.hbm, 389, rfl⟩
abbrev main_call4_call0_v0 : Ref sig .tc := ⟨.hbm, 390, rfl⟩
abbrev main_call4_call0_v1 : Ref sig .tc := ⟨.hbm, 391, rfl⟩
abbrev main_v339 : Ref sig .tc := ⟨.hbm, 392, rfl⟩
abbrev main_cst_12 : Ref sig .tc := ⟨.hbm, 393, rfl⟩
abbrev main_v340 : Ref sig .tc := ⟨.hbm, 394, rfl⟩
abbrev main_cst_13 : Ref sig .tc := ⟨.hbm, 395, rfl⟩
abbrev main_v341 : Ref sig .tc := ⟨.hbm, 396, rfl⟩
abbrev main_v342 : Ref sig .tc := ⟨.hbm, 397, rfl⟩
abbrev main_v343 : Ref sig .tc := ⟨.hbm, 398, rfl⟩
abbrev main_cst_14 : Ref sig .tc := ⟨.hbm, 399, rfl⟩
abbrev main_v344 : Ref sig .tc := ⟨.hbm, 400, rfl⟩
abbrev main_v345 : Ref sig .tc := ⟨.hbm, 401, rfl⟩
abbrev main_v346 : Ref sig .tc := ⟨.hbm, 402, rfl⟩
abbrev main_c_15 : Ref sig .tc := ⟨.hbm, 403, rfl⟩
abbrev main_call5_cst : Ref sig .tc := ⟨.hbm, 404, rfl⟩
abbrev main_call5_v0 : Ref sig .tc := ⟨.hbm, 405, rfl⟩
abbrev main_call5_v1 : Ref sig .tc := ⟨.hbm, 406, rfl⟩
abbrev main_call5_cst_0 : Ref sig .tc := ⟨.hbm, 407, rfl⟩
abbrev main_call5_v2 : Ref sig .tc := ⟨.hbm, 408, rfl⟩
abbrev main_call5_v3 : Ref sig .tc := ⟨.hbm, 409, rfl⟩
abbrev main_call5_v4 : Ref sig .tc := ⟨.hbm, 410, rfl⟩
abbrev main_call5_v5 : Ref sig .tc := ⟨.hbm, 411, rfl⟩
abbrev main_call5_v6 : Ref sig .tc := ⟨.hbm, 412, rfl⟩
abbrev main_call5_v7 : Ref sig .tc := ⟨.hbm, 413, rfl⟩
abbrev main_call5_cst_1 : Ref sig .tc := ⟨.hbm, 414, rfl⟩
abbrev main_call5_v8 : Ref sig .tc := ⟨.hbm, 415, rfl⟩
abbrev main_call5_cst_2 : Ref sig .tc := ⟨.hbm, 416, rfl⟩
abbrev main_call5_v9 : Ref sig .tc := ⟨.hbm, 417, rfl⟩
abbrev main_call5_v10 : Ref sig .tc := ⟨.hbm, 418, rfl⟩
abbrev main_call5_v11 : Ref sig .tc := ⟨.hbm, 419, rfl⟩
abbrev main_call5_cst_3 : Ref sig .tc := ⟨.hbm, 420, rfl⟩
abbrev main_call5_v12 : Ref sig .tc := ⟨.hbm, 421, rfl⟩
abbrev main_call5_cst_4 : Ref sig .tc := ⟨.hbm, 422, rfl⟩
abbrev main_call5_call0_v0 : Ref sig .tc := ⟨.hbm, 423, rfl⟩
abbrev main_call5_call0_v1 : Ref sig .tc := ⟨.hbm, 424, rfl⟩
abbrev main_v347 : Ref sig .tc := ⟨.hbm, 425, rfl⟩
abbrev main_cst_16 : Ref sig .tc := ⟨.hbm, 426, rfl⟩
abbrev main_v348 : Ref sig .tc := ⟨.hbm, 427, rfl⟩
abbrev main_cst_17 : Ref sig .tc := ⟨.hbm, 428, rfl⟩
abbrev main_v349 : Ref sig .tc := ⟨.hbm, 429, rfl⟩
abbrev main_v350 : Ref sig .tc := ⟨.hbm, 430, rfl⟩
abbrev main_v351 : Ref sig .tc := ⟨.hbm, 431, rfl⟩
abbrev main_cst_18 : Ref sig .tc := ⟨.hbm, 432, rfl⟩
abbrev main_v352 : Ref sig .tc := ⟨.hbm, 433, rfl⟩
abbrev main_v353 : Ref sig .tc := ⟨.hbm, 434, rfl⟩
abbrev main_v354 : Ref sig .tc := ⟨.hbm, 435, rfl⟩
abbrev main_v355 : Ref sig .tc := ⟨.hbm, 436, rfl⟩
abbrev main_cst_19 : Ref sig .tc := ⟨.hbm, 437, rfl⟩
abbrev main_v356 : Ref sig .tc := ⟨.hbm, 438, rfl⟩
abbrev main_v357 : Ref sig .tc := ⟨.hbm, 439, rfl⟩
abbrev main_cst_20 : Ref sig .tc := ⟨.hbm, 440, rfl⟩
abbrev main_v358 : Ref sig .tc := ⟨.hbm, 441, rfl⟩
abbrev main_v359 : Ref sig .tc := ⟨.hbm, 442, rfl⟩
abbrev main_v360 : Ref sig .tc := ⟨.hbm, 443, rfl⟩
abbrev main_v361 : Ref sig .tc := ⟨.hbm, 444, rfl⟩
abbrev main_v362 : Ref sig .tc := ⟨.hbm, 445, rfl⟩
abbrev main_v363 : Ref sig .tc := ⟨.hbm, 446, rfl⟩
abbrev main_call6_cst : Ref sig .tc := ⟨.hbm, 447, rfl⟩
abbrev main_call6_v0 : Ref sig .tc := ⟨.hbm, 448, rfl⟩
abbrev main_v364 : Ref sig .tc := ⟨.hbm, 449, rfl⟩
abbrev main_v365 : Ref sig .tc := ⟨.hbm, 450, rfl⟩
abbrev main_v366 : Ref sig .tc := ⟨.hbm, 451, rfl⟩
abbrev main_v367 : Ref sig .tc := ⟨.hbm, 452, rfl⟩
abbrev main_v368 : Ref sig .tc := ⟨.hbm, 453, rfl⟩
abbrev main_cst_21 : Ref sig .tc := ⟨.hbm, 454, rfl⟩
abbrev main_v369 : Ref sig .tc := ⟨.hbm, 455, rfl⟩
abbrev main_cst_22 : Ref sig .tc := ⟨.hbm, 456, rfl⟩
abbrev main_v370 : Ref sig .tc := ⟨.hbm, 457, rfl⟩
abbrev main_v371 : Ref sig .tc := ⟨.hbm, 458, rfl⟩
abbrev main_v372 : Ref sig .tc := ⟨.hbm, 459, rfl⟩
abbrev main_v373 : Ref sig .tc := ⟨.hbm, 460, rfl⟩
abbrev main_v374 : Ref sig .tc := ⟨.hbm, 461, rfl⟩
abbrev main_v375 : Ref sig .tc := ⟨.hbm, 462, rfl⟩
abbrev main_cst_23 : Ref sig .tc := ⟨.hbm, 463, rfl⟩
abbrev main_v376 : Ref sig .tc := ⟨.hbm, 464, rfl⟩
abbrev main_v377 : Ref sig .tc := ⟨.hbm, 465, rfl⟩
abbrev main_v378 : Ref sig .tc := ⟨.hbm, 466, rfl⟩
abbrev main_v379 : Ref sig .tc := ⟨.hbm, 467, rfl⟩
abbrev main_v380 : Ref sig .tc := ⟨.hbm, 468, rfl⟩
abbrev main_v381 : Ref sig .tc := ⟨.hbm, 469, rfl⟩
abbrev main_v382 : Ref sig .tc := ⟨.hbm, 470, rfl⟩
abbrev main_v383 : Ref sig .tc := ⟨.hbm, 471, rfl⟩
abbrev main_v384 : Ref sig .tc := ⟨.hbm, 472, rfl⟩
abbrev main_v385 : Ref sig .tc := ⟨.hbm, 473, rfl⟩
abbrev main_v386 : Ref sig .tc := ⟨.hbm, 474, rfl⟩
abbrev main_v387 : Ref sig .tc := ⟨.hbm, 475, rfl⟩
abbrev main_v388 : Ref sig .tc := ⟨.hbm, 476, rfl⟩
abbrev main_v389 : Ref sig .tc := ⟨.hbm, 477, rfl⟩
abbrev main_v390 : Ref sig .tc := ⟨.hbm, 478, rfl⟩
abbrev main_v391 : Ref sig .tc := ⟨.hbm, 479, rfl⟩
abbrev main_v392 : Ref sig .tc := ⟨.hbm, 480, rfl⟩
abbrev main_v393 : Ref sig .tc := ⟨.hbm, 481, rfl⟩
abbrev main_v394 : Ref sig .tc := ⟨.hbm, 482, rfl⟩
abbrev main_v395 : Ref sig .tc := ⟨.hbm, 483, rfl⟩
abbrev main_v396 : Ref sig .tc := ⟨.hbm, 484, rfl⟩
abbrev main_v397 : Ref sig .tc := ⟨.hbm, 485, rfl⟩
abbrev main_v398 : Ref sig .tc := ⟨.hbm, 486, rfl⟩
abbrev main_v399 : Ref sig .tc := ⟨.hbm, 487, rfl⟩
abbrev main_v400 : Ref sig .tc := ⟨.hbm, 488, rfl⟩
abbrev main_v401 : Ref sig .tc := ⟨.hbm, 489, rfl⟩
abbrev main_v402 : Ref sig .tc := ⟨.hbm, 490, rfl⟩
abbrev main_v403 : Ref sig .tc := ⟨.hbm, 491, rfl⟩
abbrev main_v404 : Ref sig .tc := ⟨.hbm, 492, rfl⟩
abbrev main_v405 : Ref sig .tc := ⟨.hbm, 493, rfl⟩
abbrev main_v406 : Ref sig .tc := ⟨.hbm, 494, rfl⟩
abbrev main_v407 : Ref sig .tc := ⟨.hbm, 495, rfl⟩
abbrev main_v408 : Ref sig .tc := ⟨.hbm, 496, rfl⟩
abbrev main_v409 : Ref sig .tc := ⟨.hbm, 497, rfl⟩
abbrev main_v410 : Ref sig .tc := ⟨.hbm, 498, rfl⟩
abbrev main_v411 : Ref sig .tc := ⟨.hbm, 499, rfl⟩
abbrev main_v412 : Ref sig .tc := ⟨.hbm, 500, rfl⟩
abbrev main_cst_24 : Ref sig .tc := ⟨.hbm, 501, rfl⟩
abbrev main_v413 : Ref sig .tc := ⟨.hbm, 502, rfl⟩
abbrev main_v414 : Ref sig .tc := ⟨.hbm, 503, rfl⟩
abbrev main_cst_25 : Ref sig .tc := ⟨.hbm, 504, rfl⟩
abbrev main_v415 : Ref sig .tc := ⟨.hbm, 505, rfl⟩
abbrev main_v416 : Ref sig .tc := ⟨.hbm, 506, rfl⟩

abbrev nD : Nat := 1
abbrev τ : Topo := Topo.v7x

variable {F : FTy → Type} [FloatOps F]
-- ==== Proof.StemModel.lean ====
/-
  THE STEM'S BODY AS LOOPS. The printed body of region 0 is unrolled: 27 taps times 10 channels for the first convolution,
  9 taps times 10 channels times 8 rows of weights for the second. Here the same value is written with folds over the taps and the
  channels, in the program's own operations and order; `Proof/StemRun.lean` says that the run leaves this value.
-/
module

public import proofs.«01_k».proof.Proof.Gen.KernelIdeal.Skeleton
public import Idealize.ShloMosaic.Lib.Pointwise

@[expose] public section

set_option maxRecDepth 16384

noncomputable section

namespace Cert.KernelIdeal.Stem

open Cert.KernelIdeal Cert.KernelIdeal.Gen Idealize.ShloMosaic

variable {F : FTy → Type} [FloatOps F]

/-- The word `-1`, `0` or `1` by which tap `k` of an axis moves. -/
def off (k : Fin 3) : BitVec 32 := match k with
  | 0 => 4294967295#32
  | 1 => 0#32
  | 2 => 1#32

/-- By how many lanes the row-major `32 × 32` image is rotated for the tap `(kh, kw)`. -/
def amt (kh kw : Fin 3) : ℕ := (1057 - (kh.val * 32 + kw.val)) % 1024

/-- The two pieces of a lane rotation. -/
abbrev laneHi (kh kw : Fin 3) : Shape := ⟨2, ![8, amt kh kw]⟩

/-- The lanes that stay in order. -/
abbrev laneLo (kh kw : Fin 3) : Shape := ⟨2, ![8, 1024 - amt kh kw]⟩

/-- The lanes that wrap around lie within the plane, -/
theorem slices_hi : ∀ kh kw : Fin 3, S8x1024.Slices ![0, 1024 - amt kh kw] (laneHi kh kw) := by decide

/-- so do the others, -/
theorem slices_lo : ∀ kh kw : Fin 3, S8x1024.Slices ![0, 0] (laneLo kh kw) := by decide

/-- and together they are the plane. -/
theorem concat_lanes : ∀ kh kw : Fin 3, Shape.Concatenates [laneHi kh kw, laneLo kh kw] S8x1024 1 := by decide

/-- The image rotated by the tap's lanes. -/
def rollLanes (kh kw : Fin 3) (a : FVec F S8x1024 .f32) : FVec F S8x1024 .f32 :=
  concatenate S8x1024 1 [⟨laneHi kh kw, extractStridedSlice (laneHi kh kw) ![0, 1024 - amt kh kw] a (slices_hi kh kw)⟩,
    ⟨laneLo kh kw, extractStridedSlice (laneLo kh kw) ![0, 0] a (slices_lo kh kw)⟩] (concat_lanes kh kw)

/-- The row number and the column number of each lane. -/
def hh : IVec S1x1024 32 := k0_pay3

/-- The column of every lane. -/
def ww : IVec S1x1024 32 := k0_pay7 k0_pay4 k0_pay5 k0_pay6
/-- The depth of each row. -/
def dd : IVec S8x1 32 := iota .tc S8x1 32 [0] iota_S8x1_d0_w32

/-- Whether a coordinate moved by `o` stays inside `0 … n - 1`. -/
def within {s : Shape} (n o : BitVec 32) (x : IVec s 32) : IVec s 1 :=
  andi (cmpi .sge (addi x (broadcast s o)) (broadcast s 0#32)) (cmpi .slt (addi x (broadcast s o)) (broadcast s n))

/-- The lanes whose source row the tap `kh` keeps inside the image; likewise the column. -/
def maskH (kh : Fin 3) : IVec S1x1024 1 := match kh with
  | 1 => broadcast S1x1024 1#1
  | k => andi (broadcast S1x1024 1#1) (within 32#32 (off k) hh)

/-- The lanes whose neighbour in the direction of a tap lies within the image. -/
def mask (kh kw : Fin 3) : IVec S1x1024 1 := match kw with
  | 1 => maskH kh
  | k => andi (maskH kh) (within 32#32 (off k) ww)

/-- The image moved by the tap in its own plane, zero outside. -/
def planeMasked (kh kw : Fin 3) (a : FVec F S8x1024 .f32) : FVec F S8x1024 .f32 :=
  select (broadcastTo S8x1024 (shapeCast S1x1024 (mask kh kw) shapeCasts_S1x1024_S1x1024) broadcasts_S1x1024_S8x1024)
    (rollLanes kh kw a) (broadcast S8x1024 (Scalar.ofBits .f32 0x00000000#32))

/-- A plane moved by a tap within the image, zero where it leaves it. -/
def plane (kh kw : Fin 3) (a : FVec F S8x1024 .f32) : FVec F S8x1024 .f32 := match kh, kw with
  | 1, 1 => a
  | _, _ => planeMasked kh kw a

/-- The planes rotated by one, down or up. -/
def rollDown (a : FVec F S8x1024 .f32) : FVec F S8x1024 .f32 :=
  concatenate S8x1024 0 [⟨S1x1024, extractStridedSlice S1x1024 ![7, 0] a slices_S8x1024_o7_0_S1x1024⟩,
    ⟨S7x1024, extractStridedSlice S7x1024 ![0, 0] a slices_S8x1024_o0_0_S7x1024⟩] concatenates_S1x1024_S7x1024_S8x1024_d0

/-- The plane's rows rolled up by one. -/
def rollUp (a : FVec F S8x1024 .f32) : FVec F S8x1024 .f32 :=
  concatenate S8x1024 0 [⟨S7x1024, extractStridedSlice S7x1024 ![1, 0] a slices_S8x1024_o1_0_S7x1024⟩,
    ⟨S1x1024, extractStridedSlice S1x1024 ![0, 0] a slices_S8x1024_o0_0_S1x1024⟩] concatenates_S7x1024_S1x1024_S8x1024_d0

/-- The planes the tap `kd` keeps, zero outside. -/
def depthMasked (kd : Fin 3) (a : FVec F S8x1024 .f32) : FVec F S8x1024 .f32 :=
  select (broadcastTo S8x1024 (shapeCast S8x1 (within 8#32 (off kd) dd) shapeCasts_S8x1_S8x1) broadcasts_S8x1_S8x1024)
    a (broadcast S8x1024 (Scalar.ofBits .f32 0x00000000#32))

/-- A plane moved by a tap of three axes. -/
def shift (kd kh kw : Fin 3) (a : FVec F S8x1024 .f32) : FVec F S8x1024 .f32 := match kd with
  | 0 => depthMasked 0 (rollDown (plane kh kw a))
  | 1 => plane kh kw a
  | 2 => depthMasked 2 (rollUp (plane kh kw a))

/-- A weight rounded as the program rounds it. -/
def bf (w : Elt F .f32) : F .f32 := Scalar.extf .f32 bitsLt_bf16_f32 (Scalar.truncf .bf16 bitsLt_bf16_f32 w)

/-- One tap of the first convolution. -/
def tap1 (xf : FVec F S8x1024 .f32) (w : Fin 3 → Fin 3 → Fin 3 → Elt F .f32) (k : Fin 3 × Fin 3 × Fin 3) : FVec F S8x1024 .f32 :=
  mulf (shift k.1 k.2.1 k.2.2 xf) (broadcast S8x1024 (bf (w k.1 k.2.1 k.2.2)))

/-- The taps after the first, in the program's order. -/
def taps : List (Fin 3 × Fin 3 × Fin 3) :=
  [(0, 0, 1), (0, 0, 2), (0, 1, 0), (0, 1, 1), (0, 1, 2), (0, 2, 0), (0, 2, 1), (0, 2, 2),
   (1, 0, 0), (1, 0, 1), (1, 0, 2), (1, 1, 0), (1, 1, 1), (1, 1, 2), (1, 2, 0), (1, 2, 1), (1, 2, 2),
   (2, 0, 0), (2, 0, 1), (2, 0, 2), (2, 1, 0), (2, 1, 1), (2, 1, 2), (2, 2, 0), (2, 2, 1), (2, 2, 2)]

/-- One channel of the first convolution, with its bias and the rectification. -/
def conv1 (xf : FVec F S8x1024 .f32) (w : Fin 3 → Fin 3 → Fin 3 → Elt F .f32) (b : Elt F .f32) : FVec F S8x1024 .f32 :=
  extf .f32 (truncf .bf16 (maximumf (addf (taps.foldl (fun acc k => addf acc (tap1 xf w k)) (tap1 xf w (0, 0, 0))) (broadcast S8x1024 b))
    (broadcast S8x1024 (Scalar.ofBits .f32 0x00000000#32))) bitsLt_bf16_f32) bitsLt_bf16_f32

/-- The column of the eight weights of one channel and tap of the second convolution. -/
def wcol (w : Fin 8 → Elt F .f32) : FVec F S8x1 .f32 :=
  select (cmpi .eq dd (broadcast S8x1 7#32)) (broadcast S8x1 (w 7)) <|
  select (cmpi .eq dd (broadcast S8x1 6#32)) (broadcast S8x1 (w 6)) <|
  select (cmpi .eq dd (broadcast S8x1 5#32)) (broadcast S8x1 (w 5)) <|
  select (cmpi .eq dd (broadcast S8x1 4#32)) (broadcast S8x1 (w 4)) <|
  select (cmpi .eq dd (broadcast S8x1 3#32)) (broadcast S8x1 (w 3)) <|
  select (cmpi .eq dd (broadcast S8x1 2#32)) (broadcast S8x1 (w 2)) <|
  select (cmpi .eq dd (broadcast S8x1 1#32)) (broadcast S8x1 (w 1)) <|
  select (cmpi .eq dd (broadcast S8x1 0#32)) (broadcast S8x1 (w 0)) (broadcast S8x1 (Scalar.ofBits .f32 0x00000000#32))

/-- One tap and channel of the second convolution. -/
def tap2 (h : Fin 10 → FVec F S8x1024 .f32) (w : Fin 10 → Fin 8 → Fin 3 → Fin 3 → Elt F .f32) (k : Fin 3 × Fin 3 × Fin 10) : FVec F S8x1024 .f32 :=
  mulf (plane k.1 k.2.1 (h k.2.2)) (broadcastTo S8x1024 (wcol fun d => w k.2.2 d k.1 k.2.1) broadcasts_S8x1_S8x1024)

/-- The channels, after the first and all of them; the planar taps after the first. -/
def chans1 : List (Fin 10) := [1, 2, 3, 4, 5, 6, 7, 8, 9]

/-- All channels in order, -/
def chans : List (Fin 10) := [0, 1, 2, 3, 4, 5, 6, 7, 8, 9]

/-- and the second convolution's taps after its first. -/
def taps2 : List (Fin 3 × Fin 3) := [(0, 1), (0, 2), (1, 0), (1, 1), (1, 2), (2, 0), (2, 1), (2, 2)]

/-- The second convolution before its sum over the depth. -/
def acc2 (h : Fin 10 → FVec F S8x1024 .f32) (w : Fin 10 → Fin 8 → Fin 3 → Fin 3 → Elt F .f32) : FVec F S8x1024 .f32 :=
  taps2.foldl (fun acc k => chans.foldl (fun acc c => addf acc (tap2 h w (k.1, k.2, c))) acc)
    (chans1.foldl (fun acc c => addf acc (tap2 h w (0, 0, c))) (tap2 h w (0, 0, 0)))

/-- What the stem stores: the second convolution, its bias and the rectification. -/
def stem (x0 : Vec F S1x8x1024 .f32) (w1 : Fin 10 → Fin 3 → Fin 3 → Fin 3 → Elt F .f32) (b1 : Fin 10 → Elt F .f32)
    (w2 : Fin 10 → Fin 8 → Fin 3 → Fin 3 → Elt F .f32) (b2 : Elt F .f32) : FVec F S1x1x1024 .f32 :=
  shapeCast S1x1x1024 (maximumf (addf (shapeCast S1x1024 (multiReduction .add [0] S1024 (acc2 (fun c => conv1 (k0_pay2 x0) (w1 c) (b1 c)) w2)
    0x00000000#32 reduces_S8x1024_S1024 (.inl rfl) rfl) shapeCasts_S1024_S1x1024) (broadcast S1x1024 b2))
    (broadcast S1x1024 (Scalar.ofBits .f32 0x00000000#32))) shapeCasts_S1x1024_S1x1x1024

end Cert.KernelIdeal.Stem

end
-- ==== Proof.StemRead.lean ====
/-
  THE STEM'S SHIFTS READ AT A POSITION: a tap moves the image in its plane and across the planes and is zero where it leaves them.
-/
module

public import proofs.«01_k».proof.Proof.StemModel

@[expose] public section

set_option maxRecDepth 16384

noncomputable section

namespace Cert.KernelIdeal.Stem

open Cert.KernelIdeal Cert.KernelIdeal.Gen Idealize.ShloMosaic

/-- The row number of lane `p` is `p / 32`, the column number `p % 32`: all lanes decided at once. -/
theorem hh_at (p : Fin 1024) : hh (ix2 (0 : Fin 1) p) = BitVec.ofNat 32 (p.val / 32) := by
  revert p; unfold hh k0_pay3
  pointwise [k0_pay3]
  decide +kernel

/-- A lane's column, -/
theorem ww_at (p : Fin 1024) : ww (ix2 (0 : Fin 1) p) = BitVec.ofNat 32 (p.val % 32) := by
  revert p; unfold ww
  pointwise [k0_pay4, k0_pay5, k0_pay6, k0_pay7]
  decide +kernel

/-- a row's number. -/
theorem dd_at (d : Fin 8) : dd (ix2 d (0 : Fin 1)) = BitVec.ofNat 32 d.val := by
  unfold dd; pointwise [k0_pay3]

/-- Whether a padded coordinate is inside the `n` true ones. -/
def inside (n v : ℕ) : Prop := 1 ≤ v ∧ v ≤ n
instance (n v : ℕ) : Decidable (inside n v) := inferInstanceAs (Decidable (_ ∧ _))

/-- The comparison of a coordinate of thirty-two with the borders says whether the neighbour is inside; -/
theorem within_scalar (k : Fin 3) (r : Fin 32) :
    IntOp.andi (IntOp.cmpi .sge (IntOp.addi (BitVec.ofNat 32 r.val) (off k)) 0#32) (IntOp.cmpi .slt (IntOp.addi (BitVec.ofNat 32 r.val) (off k)) 32#32)
      = if inside 32 (r.val + k.val) then 1#1 else 0#1 := by
  revert k r; decide +kernel

/-- so for one of eight. -/
theorem within8_scalar (k : Fin 3) (r : Fin 8) :
    IntOp.andi (IntOp.cmpi .sge (IntOp.addi (BitVec.ofNat 32 r.val) (off k)) 0#32) (IntOp.cmpi .slt (IntOp.addi (BitVec.ofNat 32 r.val) (off k)) 8#32)
      = if inside 8 (r.val + k.val) then 1#1 else 0#1 := by
  revert k r; decide +kernel

/-- A tap's coordinate is one of three. -/
theorem three (k : Fin 3) : k = 0 ∨ k = 1 ∨ k = 2 := by revert k; decide

/-- The mask of the rows at a lane, -/
theorem maskH_at (kh : Fin 3) (p : Fin 1024) : maskH kh (ix2 (0 : Fin 1) p) = if inside 32 (p.val / 32 + kh.val) then 1#1 else 0#1 := by
  have hr : p.val / 32 < 32 := by omega
  have h := within_scalar kh ⟨p.val / 32, hr⟩
  by_cases h1 : kh = 1
  · subst h1
    have q : inside 32 (p.val / 32 + (1 : Fin 3).val) := ⟨Nat.le_add_left 1 _, by show p.val / 32 + 1 ≤ 32; omega⟩
    rw [if_pos q]; rfl
  · have e : maskH kh = andi (broadcast S1x1024 1#1) (within 32#32 (off kh) hh) := by
      rcases three kh with rfl | rfl | rfl
      · rfl
      · exact absurd rfl h1
      · rfl
    rw [e]; unfold within; pointwise [hh_at]; rw [h]; split <;> rfl

/-- and the mask of rows and columns. -/
theorem mask_at (kh kw : Fin 3) (p : Fin 1024) : mask kh kw (ix2 (0 : Fin 1) p)
    = if inside 32 (p.val / 32 + kh.val) ∧ inside 32 (p.val % 32 + kw.val) then 1#1 else 0#1 := by
  have hr : p.val % 32 < 32 := by omega
  have h := within_scalar kw ⟨p.val % 32, hr⟩
  by_cases h1 : kw = 1
  · subst h1
    have q : inside 32 (p.val % 32 + (1 : Fin 3).val) := ⟨Nat.le_add_left 1 _, by show p.val % 32 + 1 ≤ 32; omega⟩
    rw [show mask kh 1 = maskH kh from rfl, maskH_at]
    exact if_congr ⟨fun a => ⟨a, q⟩, fun a => a.1⟩ rfl rfl
  · have e : mask kh kw = andi (maskH kh) (within 32#32 (off kw) ww) := by
      rcases three kw with rfl | rfl | rfl
      · rfl
      · exact absurd rfl h1
      · rfl
    rw [e]; unfold within; pointwise [ww_at, maskH_at]; rw [h]
    by_cases a : inside 32 (p.val / 32 + kh.val) <;> by_cases b : inside 32 (p.val % 32 + kw.val) <;>
      simp only [a, b, if_true, if_false, and_true, and_false] <;> rfl

/-- Two positions of two axes are equal when their coordinates are. -/
theorem ext2 {n m : ℕ} {i j : (⟨2, ![n, m]⟩ : Shape).Idx} (h0 : (i 0).val = (j 0).val) (h1 : (i 1).val = (j 1).val) : i = j := by
  funext a
  match a with
  | ⟨0, _⟩ => exact Fin.ext h0
  | ⟨1, _⟩ => exact Fin.ext h1

/-- How far a tap rolls the lanes, by cases. -/
theorem amt_cases (kh kw : Fin 3) : (kh.val * 32 + kw.val ≤ 33 ∧ amt kh kw = 33 - (kh.val * 32 + kw.val) )
    ∨ (33 < kh.val * 32 + kw.val ∧ amt kh kw = 1057 - (kh.val * 32 + kw.val)) := by
  unfold amt; have := kh.isLt; have := kw.isLt; omega

/-- The rotated image at a lane whose source stays inside the `1024` lanes. -/
theorem rollLanes_at (kh kw : Fin 3) (a : FVec Ideal S8x1024 .f32) (d : Fin 8) (p r : Fin 1024)
    (hr : r.val + 33 = p.val + (kh.val * 32 + kw.val)) : rollLanes kh kw a (ix2 d p) = a (ix2 d r) := by
  unfold rollLanes
  pointwise
  have hc := amt_cases kh kw
  have hlt := r.isLt
  split
  · refine congrArg a (ext2 rfl ?_)
    show 1024 - amt kh kw + p.val = r.val
    omega
  · refine congrArg a (ext2 rfl ?_)
    show p.val - amt kh kw = r.val
    omega

/-- An image read at padded coordinates: entry `(d, h, w)` is the image's `(d - 1, h - 1, w - 1)`, zero on the rim. -/
def padded (a : FVec Ideal S8x1024 .f32) (d h w : ℕ) : EReal :=
  if q : inside 8 d ∧ inside 32 h ∧ inside 32 w then a (ix2 (⟨d - 1, by have := q.1; unfold inside at this; omega⟩ : Fin 8) (⟨(h - 1) * 32 + (w - 1), by have := q.2; unfold inside at this; omega⟩ : Fin 1024)) else 0

/-- A moved plane holds the padded plane's entry under the tap. -/
theorem plane_at (kh kw : Fin 3) (a : FVec Ideal S8x1024 .f32) (d : Fin 8) (p : Fin 1024) :
    plane kh kw a (ix2 d p) = padded a (d.val + 1) (p.val / 32 + kh.val) (p.val % 32 + kw.val) := by
  have hd : inside 8 (d.val + 1) := ⟨by omega, by omega⟩
  by_cases hc : kh = 1 ∧ kw = 1
  · obtain ⟨rfl, rfl⟩ := hc
    show a (ix2 d p) = _
    unfold padded
    rw [dif_pos ⟨hd, ⟨by simp, by simp; omega⟩, ⟨by simp, by simp; omega⟩⟩]
    refine congrArg a ?_
    idx_ext <;> simp <;> omega
  · have e : plane kh kw a = planeMasked kh kw a := by
      unfold plane; split
      · exact absurd ⟨rfl, rfl⟩ hc
      · rfl
    rw [e]; unfold planeMasked
    pointwise [mask_at]
    unfold padded
    by_cases q : inside 32 (p.val / 32 + kh.val) ∧ inside 32 (p.val % 32 + kw.val)
    · rw [if_pos q, dif_pos ⟨hd, q⟩]
      show rollLanes kh kw a (ix2 d p) = _
      have h1 := q.1.1; have h2 := q.1.2; have h3 := q.2.1; have h4 := q.2.2
      rw [rollLanes_at kh kw a d p ⟨(p.val / 32 + kh.val - 1) * 32 + (p.val % 32 + kw.val - 1), by omega⟩ (by
        show (p.val / 32 + kh.val - 1) * 32 + (p.val % 32 + kw.val - 1) + 33 = _; omega)]
      exact congrArg a (ext2 rfl rfl)
    · rw [if_neg q, dif_neg fun h => q h.2]
      rfl

/-- The rows rolled down, at a position, -/
theorem rollDown_at (a : FVec Ideal S8x1024 .f32) (d : Fin 8) (p : Fin 1024) :
    rollDown a (ix2 d p) = a (ix2 (⟨(d.val + 7) % 8, Nat.mod_lt _ (by omega)⟩ : Fin 8) p) := by
  unfold rollDown; pointwise
  have := d.isLt
  split
  · refine congrArg a (ext2 ?_ rfl)
    show 7 + d.val = (d.val + 7) % 8
    omega
  · refine congrArg a (ext2 ?_ rfl)
    show d.val - 1 = (d.val + 7) % 8
    omega

/-- rolled up, -/
theorem rollUp_at (a : FVec Ideal S8x1024 .f32) (d : Fin 8) (p : Fin 1024) :
    rollUp a (ix2 d p) = a (ix2 (⟨(d.val + 1) % 8, Nat.mod_lt _ (by omega)⟩ : Fin 8) p) := by
  unfold rollUp; pointwise
  have := d.isLt
  split
  · refine congrArg a (ext2 ?_ rfl)
    show 1 + d.val = (d.val + 1) % 8
    omega
  · refine congrArg a (ext2 ?_ rfl)
    show d.val - 7 = (d.val + 1) % 8
    omega

/-- and with the rows that left the plane set to zero. -/
theorem depthMasked_at (kd : Fin 3) (a : FVec Ideal S8x1024 .f32) (d : Fin 8) (p : Fin 1024) :
    depthMasked kd a (ix2 d p) = if inside 8 (d.val + kd.val) then a (ix2 d p) else 0 := by
  have h := within8_scalar kd d
  unfold depthMasked within
  pointwise [dd_at]
  rw [h]
  by_cases q : inside 8 (d.val + kd.val)
  · rw [if_pos q, if_pos q]; rfl
  · rw [if_neg q, if_neg q]; rfl

/-- A tap of the first convolution reads the image at its padded coordinates. -/
theorem shift_at (kd kh kw : Fin 3) (a : FVec Ideal S8x1024 .f32) (d : Fin 8) (p : Fin 1024) :
    shift kd kh kw a (ix2 d p) = padded a (d.val + kd.val) (p.val / 32 + kh.val) (p.val % 32 + kw.val) := by
  have hd := d.isLt
  rcases three kd with rfl | rfl | rfl
  · rw [show shift 0 kh kw a = depthMasked 0 (rollDown (plane kh kw a)) from rfl, depthMasked_at, rollDown_at, plane_at]
    by_cases q : inside 8 (d.val + (0 : Fin 3).val)
    · have q1 : 1 ≤ d.val + 0 := q.1
      rw [if_pos q]
      exact congrArg (fun n => padded a n _ _) (show (d.val + 7) % 8 + 1 = d.val + 0 by omega)
    · rw [if_neg q]; unfold padded; rw [dif_neg fun h => q h.1]
  · exact plane_at kh kw a d p
  · rw [show shift 2 kh kw a = depthMasked 2 (rollUp (plane kh kw a)) from rfl, depthMasked_at, rollUp_at, plane_at]
    by_cases q : inside 8 (d.val + (2 : Fin 3).val)
    · have q1 : d.val + 2 ≤ 8 := q.2
      rw [if_pos q]
      exact congrArg (fun n => padded a n _ _) (show (d.val + 1) % 8 + 1 = d.val + 2 by omega)
    · rw [if_neg q]; unfold padded; rw [dif_neg fun h => q h.1]

/-- The column of weights at a depth. -/
theorem wcol_at (w : Fin 8 → Elt Ideal .f32) (d : Fin 8) : wcol w (ix2 d (0 : Fin 1)) = w d := by
  unfold wcol
  pointwise [dd_at]
  revert d; intro d
  fin_cases d <;> rfl

end Cert.KernelIdeal.Stem

end
-- ==== Proof.StemSum.lean ====
/-
  THE STEM READ AT A POSITION: its two convolutions as sums over their taps and channels.
-/
module

public import proofs.«01_k».proof.Proof.StemRead

@[expose] public section

set_option maxRecDepth 16384

noncomputable section

namespace Cert.KernelIdeal.Stem

open Cert.KernelIdeal Cert.KernelIdeal.Gen Idealize.ShloMosaic

/-- A sum of vectors over a list, read at a position. -/
theorem foldl_at {s : Shape} {α : Type} (l : List α) (f : α → FVec Ideal s .f32) (z : FVec Ideal s .f32) (i : s.Idx) :
    (l.foldl (fun acc k => addf acc (f k)) z) i = l.foldl (fun acc k => acc + f k i) (z i : EReal) := by
  induction l generalizing z with
  | nil => rfl
  | cons a l ih => exact ih _

/-- Adding along a list is adding the list's sum. -/
theorem foldl_sum {α : Type} (l : List α) (f : α → EReal) (z : EReal) : l.foldl (fun acc k => acc + f k) z = z + (l.map f).sum := by
  induction l generalizing z with
  | nil => simp
  | cons a l ih => rw [List.foldl_cons, ih, List.map_cons, List.sum_cons, add_assoc]

/-- Adding along the channels is adding the sum over them, -/
theorem fold_chans (f : Fin 10 → EReal) (z : EReal) : chans.foldl (fun acc k => acc + f k) z = z + ∑ c : Fin 10, f c := by
  rw [foldl_sum, Fin.sum_univ_def]; rfl

/-- also when the first channel comes first. -/
theorem fold_chans1 (f : Fin 10 → EReal) : chans1.foldl (fun acc k => acc + f k) (f 0) = ∑ c : Fin 10, f c := by
  have h := fold_chans f 0
  rw [zero_add] at h
  rw [← h]
  show _ = chans1.foldl (fun acc k => acc + f k) (0 + f 0)
  rw [zero_add]

/-- The value of one tap of the first convolution at a position. -/
def tapV (xf : FVec Ideal S8x1024 .f32) (w : Fin 3 → Fin 3 → Fin 3 → EReal) (d : Fin 8) (p : Fin 1024) (k : Fin 3 × Fin 3 × Fin 3) : EReal :=
  padded xf (d.val + k.1.val) (p.val / 32 + k.2.1.val) (p.val % 32 + k.2.2.val) * w k.1 k.2.1 k.2.2

/-- One tap of the first convolution at a position, -/
theorem tap1_at (xf : FVec Ideal S8x1024 .f32) (w : Fin 3 → Fin 3 → Fin 3 → Elt Ideal .f32) (k : Fin 3 × Fin 3 × Fin 3) (d : Fin 8) (p : Fin 1024) :
    tap1 xf w k (ix2 d p) = tapV xf w d p k := by
  unfold tap1 bf tapV; pointwise [shift_at]

/-- The bias and the rectification at a position. -/
theorem relu_at (V : FVec Ideal S8x1024 .f32) (b : Elt Ideal .f32) (i : S8x1024.Idx) :
    (extf .f32 (truncf .bf16 (maximumf (addf V (broadcast S8x1024 b))
      (broadcast S8x1024 (Scalar.ofBits .f32 0x00000000#32))) bitsLt_bf16_f32) bitsLt_bf16_f32 : FVec Ideal S8x1024 .f32) i = max (V i + b) (0 : EReal) := by
  pointwise

/-- The first convolution at a position. -/
theorem conv1_at (xf : FVec Ideal S8x1024 .f32) (w : Fin 3 → Fin 3 → Fin 3 → Elt Ideal .f32) (b : Elt Ideal .f32) (d : Fin 8) (p : Fin 1024) :
    conv1 xf w b (ix2 d p) = max (taps.foldl (fun acc k => acc + tapV xf w d p k) (tapV xf w d p (0, 0, 0)) + b) (0 : EReal) := by
  unfold conv1
  rw [relu_at, foldl_at]
  simp only [tap1_at]

/-- The value of one tap and channel of the second convolution at a position. -/
def tap2V (h : Fin 10 → FVec Ideal S8x1024 .f32) (w : Fin 10 → Fin 8 → Fin 3 → Fin 3 → EReal) (d : Fin 8) (p : Fin 1024) (kh kw : Fin 3) (c : Fin 10) : EReal :=
  padded (h c) (d.val + 1) (p.val / 32 + kh.val) (p.val % 32 + kw.val) * w c d kh kw

/-- and one of the second. -/
theorem tap2_at (h : Fin 10 → FVec Ideal S8x1024 .f32) (w : Fin 10 → Fin 8 → Fin 3 → Fin 3 → Elt Ideal .f32) (d : Fin 8) (p : Fin 1024) (kh kw : Fin 3) (c : Fin 10) :
    tap2 h w (kh, kw, c) (ix2 d p) = tap2V h w d p kh kw c := by
  unfold tap2 tap2V; pointwise [plane_at, wcol_at]

/-- A fold whose every step adds a number at a position. -/
theorem foldl_step {s : Shape} {α : Type} (l : List α) (g : FVec Ideal s .f32 → α → FVec Ideal s .f32) (S : α → EReal) (i : s.Idx)
    (hg : ∀ z k, g z k i = z i + S k) (z : FVec Ideal s .f32) : (l.foldl g z) i = z i + (l.map S).sum := by
  induction l generalizing z with
  | nil => simp
  | cons a l ih => rw [List.foldl_cons, ih, hg, List.map_cons, List.sum_cons]; exact add_assoc _ _ _

/-- The nine taps in order are the sum over rows and columns. -/
theorem sum_taps2 (S : Fin 3 × Fin 3 → EReal) : S (0, 0) + (taps2.map S).sum = ∑ kh : Fin 3, ∑ kw : Fin 3, S (kh, kw) := by
  simp only [taps2, List.map_cons, List.map_nil, List.sum_cons, List.sum_nil, Fin.sum_univ_three, add_assoc, add_zero]

/-- The second convolution before the sum over the depth, at a position. -/
theorem acc2_at (h : Fin 10 → FVec Ideal S8x1024 .f32) (w : Fin 10 → Fin 8 → Fin 3 → Fin 3 → Elt Ideal .f32) (d : Fin 8) (p : Fin 1024) :
    acc2 h w (ix2 d p) = ∑ kh : Fin 3, ∑ kw : Fin 3, ∑ c : Fin 10, tap2V h w d p kh kw c := by
  have f : ∀ (z : FVec Ideal S8x1024 .f32) (k : Fin 3 × Fin 3), (chans.foldl (fun acc c => addf acc (tap2 h w (k.1, k.2, c))) z) (ix2 d p)
      = z (ix2 d p) + ∑ c : Fin 10, tap2V h w d p k.1 k.2 c := fun z k => by
    rw [foldl_at, fold_chans]; simp only [tap2_at]
  unfold acc2
  rw [foldl_step taps2 _ (fun k => ∑ c : Fin 10, tap2V h w d p k.1 k.2 c) _ f, foldl_at]
  simp only [tap2_at]
  rw [fold_chans1 (fun c => tap2V h w d p 0 0 c)]
  exact sum_taps2 fun k => ∑ c : Fin 10, tap2V h w d p k.1 k.2 c

/-- The sum over the depth, the bias and the rectification. -/
theorem out_at (V : FVec Ideal S8x1024 .f32) (b2 : Elt Ideal .f32) (p : Fin 1024) :
    (shapeCast S1x1x1024 (maximumf (addf (shapeCast S1x1024 (multiReduction .add [0] S1024 V
      0x00000000#32 reduces_S8x1024_S1024 (.inl rfl) rfl) shapeCasts_S1024_S1x1024) (broadcast S1x1024 b2))
      (broadcast S1x1024 (Scalar.ofBits .f32 0x00000000#32))) shapeCasts_S1x1024_S1x1x1024 : FVec Ideal S1x1x1024 .f32) (ix3 (0 : Fin 1) (0 : Fin 1) p)
      = max ((∑ d : Fin 8, V (ix2 d p)) + b2) (0 : EReal) := by
  pointwise

/-- The stem's value at a lane. -/
theorem stem_at (x0 : Vec Ideal S1x8x1024 .f32) (w1 : Fin 10 → Fin 3 → Fin 3 → Fin 3 → Elt Ideal .f32) (b1 : Fin 10 → Elt Ideal .f32)
    (w2 : Fin 10 → Fin 8 → Fin 3 → Fin 3 → Elt Ideal .f32) (b2 : Elt Ideal .f32) (p : Fin 1024) :
    stem x0 w1 b1 w2 b2 (ix3 (0 : Fin 1) (0 : Fin 1) p)
      = max ((∑ d : Fin 8, ∑ kh : Fin 3, ∑ kw : Fin 3, ∑ c : Fin 10, tap2V (fun c => conv1 (k0_pay2 x0) (w1 c) (b1 c)) w2 d p kh kw c) + b2) (0 : EReal) := by
  unfold stem
  rw [out_at]
  simp only [acc2_at]

end Cert.KernelIdeal.Stem

end
-- ==== Proof.Moe.lean ====
/-
  A MIXTURE OF EXPERTS, AS MATHEMATICS: over rows of extended reals, the softmax of a row and an expert's two layers. Both programs'
  values are stated with these.
-/
module

public import Idealize.ShloMosaic.Lib.Pointwise

@[expose] public section

set_option maxRecDepth 16384

noncomputable section

namespace Cert.Moe

open Idealize.ShloMosaic

/-- The largest entry of a row. -/
def top {n : ℕ} (f : Fin n → EReal) : EReal := Finset.univ.fold max ⊥ f

/-- No entry is above the largest, -/
theorem le_top {n : ℕ} (f : Fin n → EReal) (j : Fin n) : f j ≤ top f :=
  (Finset.le_fold_max _).mpr (.inr ⟨j, Finset.mem_univ _, le_rfl⟩)

/-- and a bound of every entry bounds it. -/
theorem top_le {n : ℕ} (f : Fin n → EReal) (a : EReal) (h : ∀ j, f j ≤ a) : top f ≤ a :=
  (Finset.fold_max_le _).mpr ⟨bot_le, fun j _ => h j⟩

/-- The pattern of minus infinity. -/
theorem negInf : (Ideal.ofBits .f32 4286578688#32 : EReal) = ⊥ := by simp [Ideal.ofBits, Ideal.ieee]

/-- A row's softmax. -/
def softmax {n : ℕ} (f : Fin n → EReal) (j : Fin n) : EReal :=
  Ideal.div (Ideal.exp (f j - top f)) (∑ k, Ideal.exp (f k - top f))

/-- An expert's hidden layer and its output layer over one row. -/
def hidden (x : Fin 1024 → EReal) (w1 : Fin 1024 → Fin 2048 → EReal) (b1 : Fin 2048 → EReal) (h : Fin 2048) : EReal :=
  max ((∑ k, x k * w1 k h) + b1 h) 0

/-- The output layer over the hidden one. -/
def layer (x : Fin 1024 → EReal) (w1 : Fin 1024 → Fin 2048 → EReal) (b1 : Fin 2048 → EReal) (w2 : Fin 2048 → Fin 1024 → EReal)
    (b2 : Fin 1024 → EReal) (j : Fin 1024) : EReal :=
  (∑ h, hidden x w1 b1 h * w2 h j) + b2 j

/-- An expert's row: the softmax of its output layer. -/
def expert (x : Fin 1024 → EReal) (w1 : Fin 1024 → Fin 2048 → EReal) (b1 : Fin 2048 → EReal) (w2 : Fin 2048 → Fin 1024 → EReal)
    (b2 : Fin 1024 → EReal) : Fin 1024 → EReal :=
  softmax (layer x w1 b1 w2 b2)

/-- Whether `e` is the first expert whose logit is the row's largest. -/
def First (f : Fin 8 → EReal) (e : Fin 8) : Prop := f e = top f ∧ ∀ j, j < e → f j ≠ top f

open Classical in
/-- A row with its best expert taken away. -/
def rest (f : Fin 8 → EReal) (e : Fin 8) : EReal := if First f e then ⊥ else f e

/-- The second best expert's exponential beside the best's. -/
def ratio (f : Fin 8 → EReal) : EReal := Ideal.exp (top (rest f) - top f)

open Classical in
/-- A row's gates: the two best experts weighted by their softmax, the others by zero. -/
def gate (f : Fin 8 → EReal) (e : Fin 8) : EReal :=
  (if First f e then Ideal.div 1 (1 + ratio f) else 0) + (if First (rest f) e then Ideal.div (ratio f) (1 + ratio f) else 0)

/-- The mean of eight numbers and their squared coefficient of variation. -/
def mean (v : Fin 8 → EReal) : EReal := Ideal.div (∑ e, v e) (Ideal.ofBits .f32 0x41000000#32)

/-- The squared coefficient of variation, by the unbiased variance. -/
def cv (v : Fin 8 → EReal) : EReal :=
  Ideal.div (Ideal.div (∑ e, (v e - mean v) * (v e - mean v)) (Ideal.ofBits .f32 0x40E00000#32)) (mean v * mean v + Ideal.ofBits .f32 0x2EDBE6FF#32)

/-- Each expert's importance and load over a batch's gates, and what they add to the auxiliary loss. -/
def importance (g : Fin 32 → Fin 8 → EReal) (e : Fin 8) : EReal := ∑ b, g b e

/-- How many images of the batch an expert is chosen for. -/
def load (g : Fin 32 → Fin 8 → EReal) (e : Fin 8) : EReal := ∑ b, if (0 : EReal) < g b e then (1 : EReal) else 0

/-- What a module adds to the auxiliary loss. -/
def loss (g : Fin 32 → Fin 8 → EReal) : EReal := (cv (importance g) + cv (load g)) * Ideal.ofBits .f32 0x3C23D70A#32

/-- The polynomial whose coefficients are the five modules' mixtures, and the logistic function. -/
def poly (x : EReal) (y : Fin 5 → EReal) : EReal :=
  x * x * (x * x) * y 4 + x * x * x * y 3 + x * x * y 2 + x * y 0 + y 1

/-- The logistic function. -/
def logistic (p : EReal) : EReal := Ideal.div 1 (1 + Ideal.exp (0 - p))

/-- Of eight experts with a property, the word of the least number among them picks out the first. -/
theorem first_word : ∀ (P : Fin 8 → Bool) (e : Fin 8),
    IntOp.cmpi .eq (BitVec.ofNat 32 e.val) (Finset.univ.fold IntOp.minsi 2147483647#32 fun x : Fin 8 => if P x = true then BitVec.ofNat 32 x.val else 8#32)
      = BitVec.ofBool (P e && decide (∀ j, j < e → P j = false)) := by
  decide +kernel

open Classical in
/-- Comparing with the least number of the best experts marks the first of them. -/
theorem first_eq (f : Fin 8 → EReal) (e : Fin 8) :
    IntOp.cmpi .eq (BitVec.ofNat 32 e.val) (Finset.univ.fold IntOp.minsi 2147483647#32 fun x : Fin 8 => if f x = top f then BitVec.ofNat 32 x.val else 8#32)
      = BitVec.ofBool (decide (First f e)) := by
  have h := first_word (fun x => decide (f x = top f)) e
  simp only [decide_eq_true_eq, decide_eq_false_iff_not] at h
  refine Eq.trans (by congr!) (h.trans ?_)
  unfold First
  by_cases h1 : f e = top f <;> by_cases h2 : ∀ j, j < e → f j ≠ top f <;> simp [h1, h2]

end Cert.Moe

end
-- ==== Proof.Spec.lean ====
/-
  WHAT BOTH PROGRAMS COMPUTE, over the argument arrays: the stem of every image, its experts' rows, its gates, the output and the
  auxiliary loss.
-/
module

public import proofs.«01_k».proof.Proof.StemSum
public import proofs.«01_k».proof.Proof.Moe

@[expose] public section

set_option maxRecDepth 16384

noncomputable section

namespace Cert.Spec

open Cert.KernelIdeal Idealize.ShloMosaic

/-- The ten argument arrays. -/
structure Args where
  a0 : FVec Ideal S32x8x1x32x32 .f32
  a1 : FVec Ideal S10x1x3x3x3 .f32
  a2 : FVec Ideal S10 .f32
  a3 : FVec Ideal S1x10x8x3x3 .f32
  a4 : FVec Ideal S1 .f32
  a5 : FVec Ideal S5x1024x8 .f32
  a6 : FVec Ideal S5x8x1024x2048 .f32
  a7 : FVec Ideal S5x8x2048 .f32
  a8 : FVec Ideal S5x8x2048x1024 .f32
  a9 : FVec Ideal S5x8x1024 .f32

variable (A : Args)

/-- The row and the column of a lane of the row-major image. -/
def hi (p : Fin 1024) : Fin 32 := ⟨p.val / 32, by omega⟩

/-- The column of a lane. -/
def lo (p : Fin 1024) : Fin 32 := ⟨p.val % 32, by omega⟩

/-- Image `b` as a plane of eight rows. -/
def img (b : Fin 32) : FVec Ideal S8x1024 .f32 := fun y => A.a0 (ix5 b (y 0) (0 : Fin 1) (hi (y 1)) (lo (y 1)))

/-- One tap of the first convolution, and its rectified value: the taps added in order, then the bias. -/
def tap (b : Fin 32) (c : Fin 10) (d : Fin 8) (p : Fin 1024) (k : Fin 3 × Fin 3 × Fin 3) : EReal :=
  Stem.padded (img A b) (d.val + k.1.val) (p.val / 32 + k.2.1.val) (p.val % 32 + k.2.2.val) * A.a1 (ix5 c (0 : Fin 1) k.1 k.2.1 k.2.2)

/-- The first convolution of image `b` and channel `c`, rectified. -/
def conv (b : Fin 32) (c : Fin 10) : FVec Ideal S8x1024 .f32 := fun y =>
  max (Stem.taps.foldl (fun acc k => acc + tap A b c (y 0) (y 1) k) (tap A b c (y 0) (y 1) (0, 0, 0)) + A.a2 (ix1 c)) (0 : EReal)

/-- The stem of image `b`. -/
def stem (b : Fin 32) (p : Fin 1024) : EReal :=
  max ((∑ d : Fin 8, ∑ kh : Fin 3, ∑ kw : Fin 3, ∑ c : Fin 10,
    Stem.padded (conv A b c) (d.val + 1) (p.val / 32 + kh.val) (p.val % 32 + kw.val) * A.a3 (ix5 (0 : Fin 1) c d kh kw)) + A.a4 (ix1 (0 : Fin 1))) 0

/-- The gate logits and the gates of module `i` and image `b`. -/
def logit (i : Fin 5) (b : Fin 32) (e : Fin 8) : EReal := ∑ k : Fin 1024, stem A b k * A.a5 (ix3 i k e)

/-- The gates of module `i` and image `b`. -/
def gate (i : Fin 5) (b : Fin 32) : Fin 8 → EReal := Moe.gate (logit A i b)

/-- The row of module `i`, expert `e` and image `b`. -/
def row (i : Fin 5) (e : Fin 8) (b : Fin 32) : Fin 1024 → EReal :=
  Moe.expert (stem A b) (fun k h => A.a6 (ix4 i e k h)) (fun h => A.a7 (ix3 i e h)) (fun h j => A.a8 (ix4 i e h j)) fun j => A.a9 (ix3 i e j)

/-- The output at image `b`, step `t` and position `(r, s)`, and the auxiliary loss. -/
def out (b : Fin 32) (t : Fin 8) (r s : Fin 32) : EReal :=
  Moe.logistic (Moe.poly (A.a0 (ix5 b t (0 : Fin 1) r s)) fun i =>
    ∑ e : Fin 8, row A i e b (⟨r.val * 32 + s.val, by omega⟩ : Fin 1024) * gate A i b e)

/-- The auxiliary loss. -/
def aux : EReal := ∑ i : Fin 5, Moe.loss (gate A i)

end Cert.Spec

end
-- ==== Proof.Finite.lean ====
/-
  FINITE ARGUMENTS GIVE FINITE LOGITS: sums, products and maxima of numbers are numbers.
-/
module

public import proofs.«01_k».proof.Pre_finite
public import proofs.«01_k».proof.Proof.Spec

@[expose] public section

set_option maxRecDepth 16384

noncomputable section

namespace Cert.Spec

open Cert.KernelIdeal Idealize.ShloMosaic

/-- An extended real that is a number. -/
def Num (x : EReal) : Prop := ∃ r : ℝ, x = (r : EReal)

/-- A number is neither infinity. -/
theorem Num.ne {x : EReal} (h : Num x) : x ≠ ⊥ ∧ x ≠ ⊤ := by
  obtain ⟨r, rfl⟩ := h
  exact ⟨EReal.coe_ne_bot r, EReal.coe_ne_top r⟩

/-- Zero is a number. -/
theorem Num.zero : Num 0 := ⟨0, rfl⟩

/-- A sum of two numbers is one, -/
theorem Num.add {x y : EReal} (hx : Num x) (hy : Num y) : Num (x + y) := by
  obtain ⟨r, rfl⟩ := hx
  obtain ⟨s, rfl⟩ := hy
  exact ⟨r + s, (EReal.coe_add r s).symm⟩

/-- so is a product, -/
theorem Num.mul {x y : EReal} (hx : Num x) (hy : Num y) : Num (x * y) := by
  obtain ⟨r, rfl⟩ := hx
  obtain ⟨s, rfl⟩ := hy
  exact ⟨r * s, (EReal.coe_mul r s).symm⟩

/-- so is a maximum, -/
theorem Num.max {x y : EReal} (hx : Num x) (hy : Num y) : Num (max x y) := by
  rcases max_choice x y with h | h <;> rw [h] <;> assumption

/-- so is a finite sum, -/
theorem Num.sum {ι : Type} (s : Finset ι) (f : ι → EReal) (h : ∀ i, Num (f i)) : Num (∑ i ∈ s, f i) :=
  Finset.sum_induction f Num (fun _ _ => Num.add) Num.zero fun i _ => h i

/-- and so is a sum along a list. -/
theorem Num.foldl {ι : Type} (l : List ι) (f : ι → EReal) (h : ∀ i, Num (f i)) (a : EReal) (ha : Num a) :
    Num (l.foldl (fun acc k => acc + f k) a) := by
  induction l generalizing a with
  | nil => exact ha
  | cons k l ih => exact ih _ (ha.add (h k))

/-- A plane of numbers with zeros around it. -/
theorem padded_num (a : FVec Ideal S8x1024 .f32) (h : ∀ y, Num (a y)) (d r s : ℕ) : Num (Stem.padded a d r s) := by
  unfold Stem.padded
  split
  · exact h _
  · exact Num.zero

/-- The arguments of the stem and of the gates are numbers. -/
structure Finite (A : Args) : Prop where
  n0 : ∀ y, Num (A.a0 y)
  n1 : ∀ y, Num (A.a1 y)
  n2 : ∀ y, Num (A.a2 y)
  n3 : ∀ y, Num (A.a3 y)
  n4 : ∀ y, Num (A.a4 y)
  n5 : ∀ y, Num (A.a5 y)

variable {A : Args} (hA : Finite A)
include hA

/-- The first convolution of finite arguments is a number everywhere. -/
theorem conv_num (b : Fin 32) (c : Fin 10) (y : S8x1024.Idx) : Num (conv A b c y) := by
  have ht : ∀ k, Num (tap A b c (y 0) (y 1) k) := fun k => (padded_num _ (fun _ => hA.n0 _) _ _ _).mul (hA.n1 _)
  exact ((Num.foldl _ _ ht _ (ht _)).add (hA.n2 _)).max Num.zero

/-- So is the stem. -/
theorem stem_num (b : Fin 32) (p : Fin 1024) : Num (stem A b p) :=
  ((Num.sum _ _ fun _ => Num.sum _ _ fun _ => Num.sum _ _ fun _ => Num.sum _ _ fun c =>
    (padded_num _ (conv_num hA b c) _ _ _).mul (hA.n3 _)).add (hA.n4 _)).max Num.zero

/-- Every gate logit of finite arguments is a number. -/
theorem logit_num (i : Fin 5) (b : Fin 32) (e : Fin 8) : Num (logit A i b e) :=
  Num.sum _ _ fun _ => (stem_num hA b _).mul (hA.n5 _)

omit hA

/-- An array whose entries' absolute values are all below infinity has numbers for entries. -/
theorem num_of_mask {s : Shape} (x : FVec Ideal s .f32) (h : Pre_finite.S_.BroadcastsInDim s (![] : Fin 0 → Fin s.rank))
    (hm : cmpf .olt (Host.absf x) (broadcastInDim s ![] h (constant Pre_finite.S_ .f32 0x7F800000#32)) = fun _ => 1#1) (y : s.Idx) :
    Num (x y) := by
  have htop : (Ideal.ofBits .f32 0x7F800000#32 : EReal) = ⊤ := by simp [Ideal.ofBits, Ideal.ieee]
  have hy : BitVec.ofBool (decide (max (x y : EReal) (-(x y)) < Ideal.ofBits .f32 0x7F800000#32)) = 1#1 := congrFun hm y
  rw [htop] at hy
  have hlt : max (x y : EReal) (-(x y)) < ⊤ := by
    by_contra hn
    rw [decide_eq_false hn] at hy
    exact absurd hy (by decide)
  have h1 : (x y : EReal) ≠ ⊤ := fun hx => by rw [hx] at hlt; simp at hlt
  have h2 : (x y : EReal) ≠ ⊥ := fun hx => by rw [hx] at hlt; simp at hlt
  exact ⟨(x y : EReal).toReal, (EReal.coe_toReal h1 h2).symm⟩

end Cert.Spec

namespace Cert.Pre_finite

open Idealize.ShloMosaic

/-- The precondition's side conditions. -/
instance facts : Facts where
  bcast_S_S32x8x1x32x32 := by decide
  bcast_S_S10x1x3x3x3 := by decide
  bcast_S_S10 := by decide
  bcast_S_S1x10x8x3x3 := by decide
  bcast_S_S1 := by decide
  bcast_S_S5x1024x8 := by decide

end Cert.Pre_finite

end
-- ==== Proof.StemRun.lean ====
/-
  THE STEM'S RUN: the value its body stores, as the program is printed, is the stem with its loops written as folds.
-/
module

public import proofs.«01_k».proof.Proof.StemModel
public import proofs.«01_k».proof.Proof.Gen.KernelIdeal.Frame

@[expose] public section

set_option maxRecDepth 16384

noncomputable section

namespace Cert.KernelIdeal.Stem

open Cert.KernelIdeal Cert.KernelIdeal.Gen Idealize.ShloMosaic

variable {F : FTy → Type} [FloatOps F]

/-- The scalars' positions lie within their arrays: the first convolution's weights, -/
theorem inb1 : ∀ (c : Fin 10) (kd kh kw : Fin 3), ∀ a : Fin 2, (![c.val, kd.val * 9 + kh.val * 3 + kw.val] : Fin 2 → ℕ) a + S1x1.size a ≤ S10x27.size a := by
  decide

/-- its biases, -/
theorem inb2 : ∀ (c : Fin 10), ∀ a : Fin 2, (![0, c.val] : Fin 2 → ℕ) a + S1x1.size a ≤ S1x10.size a := by decide

/-- the second convolution's weights. -/
theorem inb3 : ∀ (c : Fin 10) (d : Fin 8) (kh kw : Fin 3), ∀ a : Fin 2, (![c.val, d.val * 9 + (kh.val * 3 + kw.val)] : Fin 2 → ℕ) a + S1x1.size a ≤ S10x72.size a := by
  decide +kernel

/-- A block of one entry has an entry. -/
theorem one_pos : 0 < S1x1.numel := by decide

/-- The scalars and the image the body loads, as the program loads them. -/
def ldX (arg1 : Memref sig .tc .vmem S1x8x1024 .f32) (harg1 : arg1.IsWhole) (x0 : Vec F S1x8x1024 .f32) : Vec F S1x8x1024 .f32 :=
  View.readAt (Elt F) arg1.view (Rect.unit ![0, 0, 0] S1x8x1024.size inb_S1x8x1024_S1x8x1024_0_0_0).toLoadRect (harg1.unread x0)

/-- What the body loads: the first convolution's weights, -/
def ldW1 (arg2 : Memref sig .tc .smem S10x27 .f32) (harg2 : arg2.IsWhole) (x1 : Vec F S10x27 .f32) (c : Fin 10) (kd kh kw : Fin 3) : Elt F .f32 :=
  View.readAt (Elt F) arg2.view (Rect.unit (s := S10x27) ![c.val, kd.val * 9 + kh.val * 3 + kw.val] S1x1.size (inb1 c kd kh kw)).toLoadRect (harg2.unread x1)
    (Shape.Idx.first one_pos)

/-- its biases, -/
def ldB1 (arg3 : Memref sig .tc .smem S1x10 .f32) (harg3 : arg3.IsWhole) (x2 : Vec F S1x10 .f32) (c : Fin 10) : Elt F .f32 :=
  View.readAt (Elt F) arg3.view (Rect.unit (s := S1x10) ![0, c.val] S1x1.size (inb2 c)).toLoadRect (harg3.unread x2) (Shape.Idx.first one_pos)

/-- the second convolution's weights, -/
def ldW2 (arg4 : Memref sig .tc .smem S10x72 .f32) (harg4 : arg4.IsWhole) (x3 : Vec F S10x72 .f32) (c : Fin 10) (d : Fin 8) (kh kw : Fin 3) : Elt F .f32 :=
  View.readAt (Elt F) arg4.view (Rect.unit (s := S10x72) ![c.val, d.val * 9 + (kh.val * 3 + kw.val)] S1x1.size (inb3 c d kh kw)).toLoadRect (harg4.unread x3)
    (Shape.Idx.first one_pos)

/-- its bias. -/
def ldB2 (arg5 : Memref sig .tc .smem S1x1 .f32) (harg5 : arg5.IsWhole) (x4 : Vec F S1x1 .f32) : Elt F .f32 :=
  View.readAt (Elt F) arg5.view (Rect.unit ![0, 0] S1x1.size inb_S1x1_S1x1_0_0).toLoadRect (harg5.unread x4) (Shape.Idx.first one_pos)

/-- The body stores one piece, the whole output block, and its value is the stem. -/
theorem pieces (c : Dev nD) (i : grid0.Coords) (arg1 : Memref sig .tc .vmem S1x8x1024 .f32) (harg1 : arg1.IsWhole)
    (arg2 : Memref sig .tc .smem S10x27 .f32) (harg2 : arg2.IsWhole) (arg3 : Memref sig .tc .smem S1x10 .f32) (harg3 : arg3.IsWhole)
    (arg4 : Memref sig .tc .smem S10x72 .f32) (harg4 : arg4.IsWhole) (arg5 : Memref sig .tc .smem S1x1 .f32) (harg5 : arg5.IsWhole)
    (arg6 : Memref sig .tc .vmem S1x1x1024 .f32) (harg6 : arg6.IsWhole)
    (x0 : Vec F S1x8x1024 .f32) (x1 : Vec F S10x27 .f32) (x2 : Vec F S1x10 .f32) (x3 : Vec F S10x72 .f32) (x4 : Vec F S1x1 .f32) :
    (kernelRun0_A c i arg1 harg1 arg2 harg2 arg3 harg3 arg4 harg4 arg5 harg5 arg6 harg6 x0 x1 x2 x3 x4).1
      = [⟨Rect.unit ![0, 0, 0] S1x1x1024.size inb_S1x1x1024_S1x1x1024_0_0_0,
          stem (ldX arg1 harg1 x0) (ldW1 arg2 harg2 x1) (ldB1 arg3 harg3 x2) (ldW2 arg4 harg4 x3) (ldB2 arg5 harg5 x4)⟩] := by
  sl_kernel_rfl

end Cert.KernelIdeal.Stem

end
-- ==== Proof.StemArr.lean ====
/-
  THE STEM'S ARRAY: after region 0 the stem of every image stands in the result, whatever the region finds in its operands.
-/
module

public import proofs.«01_k».proof.Proof.StemRun
public import proofs.«01_k».proof.Proof.StemRead
public import Idealize.ShloMosaic.Lib.Pipeline.ValueKit

@[expose] public section

set_option maxRecDepth 16384

noncomputable section

namespace Cert.KernelIdeal.Stem

open Cert.KernelIdeal Cert.KernelIdeal.Gen Idealize.ShloMosaic Idealize.ShloMosaic.TcCoe Idealize.SL.Sem
open Idealize.ShloMosaic.Pipeline (Dat)

/-- A tap's number lies within the twenty-seven, -/
theorem tap27 (kd kh kw : Fin 3) : kd.val * 9 + kh.val * 3 + kw.val < 27 := by omega

/-- and a row's tap within the seventy-two. -/
theorem tap72 (d : Fin 8) (kh kw : Fin 3) : d.val * 9 + (kh.val * 3 + kw.val) < 72 := by omega

/-- Each load of the body, read off the block it loads from. -/
theorem ldX_eq (arg1 : Memref sig .tc .vmem S1x8x1024 .f32) (h : arg1.IsWhole) (x : Vec Ideal S1x8x1024 .f32) : ldX arg1 h x = x := by
  unfold ldX
  rw [View.readAt_eq_ld, Memref.IsWhole.read_unread]
  simp (disch := decide) only [View.ld_unit_lit']

/-- The scalars that the body loads: the first convolution's weights, -/
theorem ldW1_eq (arg2 : Memref sig .tc .smem S10x27 .f32) (h : arg2.IsWhole) (x : Vec Ideal S10x27 .f32) (c : Fin 10) (kd kh kw : Fin 3) :
    ldW1 arg2 h x c kd kh kw = x (ix2 c (⟨kd.val * 9 + kh.val * 3 + kw.val, tap27 kd kh kw⟩ : Fin 27)) := by
  unfold ldW1
  rw [View.readAt_eq_ld, Memref.IsWhole.read_unread]
  exact congrArg x (ext2 rfl rfl)

/-- its biases, -/
theorem ldB1_eq (arg3 : Memref sig .tc .smem S1x10 .f32) (h : arg3.IsWhole) (x : Vec Ideal S1x10 .f32) (c : Fin 10) :
    ldB1 arg3 h x c = x (ix2 (0 : Fin 1) c) := by
  unfold ldB1
  rw [View.readAt_eq_ld, Memref.IsWhole.read_unread]
  exact congrArg x (ext2 rfl rfl)

/-- the second convolution's weights, -/
theorem ldW2_eq (arg4 : Memref sig .tc .smem S10x72 .f32) (h : arg4.IsWhole) (x : Vec Ideal S10x72 .f32) (c : Fin 10) (d : Fin 8) (kh kw : Fin 3) :
    ldW2 arg4 h x c d kh kw = x (ix2 c (⟨d.val * 9 + (kh.val * 3 + kw.val), tap72 d kh kw⟩ : Fin 72)) := by
  unfold ldW2
  rw [View.readAt_eq_ld, Memref.IsWhole.read_unread]
  exact congrArg x (ext2 rfl rfl)

/-- its bias. -/
theorem ldB2_eq (arg5 : Memref sig .tc .smem S1x1 .f32) (h : arg5.IsWhole) (x : Vec Ideal S1x1 .f32) :
    ldB2 arg5 h x = x (ix2 (0 : Fin 1) (0 : Fin 1)) := by
  unfold ldB2
  rw [View.readAt_eq_ld, Memref.IsWhole.read_unread]
  exact congrArg x (ext2 rfl rfl)

/-- One image of the stack. -/
def imgOf (X : FVec Ideal S32x8x1024 .f32) (b : Fin 32) : FVec Ideal S1x8x1024 .f32 := fun y => X (ix3 b (y 1) (y 2))

/-- The stem of one image over the operands of region 0. -/
def stemOf (X : FVec Ideal S32x8x1024 .f32) (W1 : FVec Ideal S10x27 .f32) (B1 : FVec Ideal S1x10 .f32) (W2 : FVec Ideal S10x72 .f32)
    (B2 : FVec Ideal S1x1 .f32) (b : Fin 32) : FVec Ideal S1x1x1024 .f32 :=
  stem (imgOf X b) (fun c kd kh kw => W1 (ix2 c (⟨kd.val * 9 + kh.val * 3 + kw.val, tap27 kd kh kw⟩ : Fin 27)))
    (fun c => B1 (ix2 (0 : Fin 1) c)) (fun c d kh kw => W2 (ix2 c (⟨d.val * 9 + (kh.val * 3 + kw.val), tap72 d kh kw⟩ : Fin 72)))
    (B2 (ix2 (0 : Fin 1) (0 : Fin 1)))

/-- Every window's block at a point: the image is the point's, the weights are whole. -/
theorem idx0 : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![t.val, 0, 0] :=
  (by decide +kernel : ∀ t : Fin grid0.N, _)

variable (V : (c : Dev nD) → (b : Ref sig .tc) → Buf (Elt Ideal) ((c : Thread nD τ).loc b))

/-- What step `t` stores is image `t`'s stem. -/
theorem outs_eq (c : Dev nD) (t : Fin cfg0.N) (b : Fin 32) (hb : b.val = t.val) : outsAt0 V c t
    = stemOf (V c main_v0) (V c main_v1) (V c main_v2) (V c main_v3) (V c main_v4) b := by
  have e0 : iblk0 V c 0 t = imgOf (V c main_v0) b := by
    funext y; unfold imgOf; blk_ext [iblk0, idx0 t]
  have e1 : iblk0 V c 1 t = V c main_v1 := by blk_ext! [iblk0, idx0 t]
  have e2 : iblk0 V c 2 t = V c main_v2 := by blk_ext! [iblk0, idx0 t]
  have e3 : iblk0 V c 3 t = V c main_v3 := by blk_ext! [iblk0, idx0 t]
  have e4 : iblk0 V c 4 t = V c main_v4 := by blk_ext! [iblk0, idx0 t]
  unfold outsAt0 out0_A_5
  rw [pieces, View.read_writes_junk_eq_canon]
  simp (disch := decide) only [View.canon_cons_unit_lit']
  unfold stemOf
  rw [ldX_eq, e0, e1, e2, e3, e4]
  congr 1
  · funext a b c d; exact ldW1_eq _ _ _ _ _ _ _
  · funext a; exact ldB1_eq _ _ _ _
  · funext a b c d; exact ldW2_eq _ _ _ _ _ _ _
  · exact ldB2_eq _ _ _

/-- The stem's array after region 0. -/
theorem final0 (c : Dev nD) : (dat0 V c).arrAt 5 cfg0.N
    = (fun i : S32x1x1024.Idx => stemOf (V c main_v0) (V c main_v1) (V c main_v2) (V c main_v3) (V c main_v4) (i 0) (ix3 (0 : Fin 1) (0 : Fin 1) (i 2)) : FVec Ideal S32x1x1024 .f32) := by
  refine (dat0 V c).arrAt_eq_of_covers 5 _ (by decide +kernel) fun t _ y => ?_
  blk_simp
  rw [after0_5, outs_eq V c t ((((cfg0.win 5).blk t).view.emb y) 0) (by blk_simp [idx0 t])]
  refine congrArg _ ?_
  blk_ext [idx0 t]

end Cert.KernelIdeal.Stem

end
-- ==== Proof.Ffn.lean ====
/-
  THE EXPERTS' ARRAY: after region 1 the row of every module, expert and image stands in the result, whatever the region finds in its
  operands.
-/
module

public import proofs.«01_k».proof.Proof.Moe
public import proofs.«01_k».proof.Proof.Gen.KernelIdeal.Frame
public import Idealize.ShloMosaic.Lib.Pipeline.ValueKit

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)

/-- The body's value at a position: the expert's row. -/
theorem body_at (x : Vec Ideal S32x1024 .f32) (w1 : Vec Ideal S1x1x1024x2048 .f32) (b1 : Vec Ideal S1x1x1x2048 .f32)
    (w2 : Vec Ideal S1x1x2048x1024 .f32) (b2 : Vec Ideal S1x1x1x1024 .f32) (b : Fin 32) (j : Fin 1024) :
    k1_pay2 x w1 b1 w2 b2 (ix2 b j)
      = Moe.expert (fun k => x (ix2 b k)) (fun k h => w1 (ix4 (0 : Fin 1) (0 : Fin 1) k h)) (fun h => b1 (ix4 (0 : Fin 1) (0 : Fin 1) (0 : Fin 1) h))
          (fun h j => w2 (ix4 (0 : Fin 1) (0 : Fin 1) h j)) (fun j => b2 (ix4 (0 : Fin 1) (0 : Fin 1) (0 : Fin 1) j)) j := by
  unfold k1_pay2 Moe.expert Moe.softmax Moe.top Moe.layer Moe.hidden
  pointwise [Moe.negInf]

/-- The stored block is the body's rows under two leading axes of size one. -/
theorem cast_at (v : FVec Ideal S32x1024 .f32) (b : Fin 32) (j : Fin 1024) : k1_pay1 v (ix4 (0 : Fin 1) (0 : Fin 1) b j) = v (ix2 b j) := by
  unfold k1_pay1; pointwise

/-- The row of module `i`, expert `e` and image `b` over the operands of region 1. -/
def row (X : FVec Ideal S32x1024 .f32) (W1 : FVec Ideal S5x8x1024x2048 .f32) (B1 : FVec Ideal S5x8x1x2048 .f32)
    (W2 : FVec Ideal S5x8x2048x1024 .f32) (B2 : FVec Ideal S5x8x1x1024 .f32) (i : Fin 5) (e : Fin 8) (b : Fin 32) : Fin 1024 → EReal :=
  Moe.expert (fun k => X (ix2 b k)) (fun k h => W1 (ix4 i e k h)) (fun h => B1 (ix4 i e (0 : Fin 1) h)) (fun h j => W2 (ix4 i e h j))
    (fun j => B2 (ix4 i e (0 : Fin 1) j))

/-- Every window's block at a point: the batch whole, the expert's weights. -/
theorem idx1 : ∀ t : Fin cfg1.N, win1_0.index t = ![0, 0] ∧ win1_1.index t = ![t.val % 5, t.val / 5, 0, 0] ∧ win1_2.index t = ![t.val % 5, t.val / 5, 0, 0]
    ∧ win1_3.index t = ![t.val % 5, t.val / 5, 0, 0] ∧ win1_4.index t = ![t.val % 5, t.val / 5, 0, 0] ∧ win1_5.index t = ![t.val % 5, t.val / 5, 0, 0] :=
  (by decide +kernel : ∀ t : Fin grid1.N, _)

variable (V : (c : Dev nD) → (b : Ref sig .tc) → Buf (Elt Ideal) ((c : Thread nD τ).loc b))

/-- What step `t` stores is the row of module `t mod 5` and expert `t div 5`. -/
theorem out_at (c : Dev nD) (t : Fin cfg1.N) (i : Fin 5) (e : Fin 8) (hi : i.val = t.val % 5) (he : e.val = t.val / 5) (b : Fin 32) (j : Fin 1024) :
    out1_5 (iblk1 V c 0 t) (iblk1 V c 1 t) (iblk1 V c 2 t) (iblk1 V c 3 t) (iblk1 V c 4 t) (ix4 (0 : Fin 1) (0 : Fin 1) b j)
      = row (V c main_v8) (V c main_arg6) (V c main_v9) (V c main_arg8) (V c main_v10) i e b j := by
  have e0 : iblk1 V c 0 t = V c main_v8 := by blk_ext! [iblk1, idx1 t]
  have e1 : ∀ k h, iblk1 V c 1 t (ix4 (0 : Fin 1) (0 : Fin 1) k h) = V c main_arg6 (ix4 i e k h) := fun k h => by blk_ext [iblk1, idx1 t]
  have e2 : ∀ h, iblk1 V c 2 t (ix4 (0 : Fin 1) (0 : Fin 1) (0 : Fin 1) h) = V c main_v9 (ix4 i e (0 : Fin 1) h) := fun h => by blk_ext [iblk1, idx1 t]
  have e3 : ∀ h j, iblk1 V c 3 t (ix4 (0 : Fin 1) (0 : Fin 1) h j) = V c main_arg8 (ix4 i e h j) := fun h j => by blk_ext [iblk1, idx1 t]
  have e4 : ∀ j, iblk1 V c 4 t (ix4 (0 : Fin 1) (0 : Fin 1) (0 : Fin 1) j) = V c main_v10 (ix4 i e (0 : Fin 1) j) := fun j => by blk_ext [iblk1, idx1 t]
  unfold out1_5
  simp (disch := decide) only [View.canon_cons_unit_lit', View.ld_unit_lit']
  rw [cast_at, body_at, e0]
  unfold row
  simp only [e1, e2, e3, e4]

/-- A position of a block by its image and lane. -/
theorem idx_row (y : S1x1x32x1024.Idx) : ∃ (b : Fin 32) (j : Fin 1024), y = ix4 (0 : Fin 1) (0 : Fin 1) b j :=
  ⟨y 2, y 3, funext fun a => by
    match a with
    | 0 => exact Fin.ext (Nat.lt_one_iff.mp (y 0).isLt)
    | 1 => exact Fin.ext (Nat.lt_one_iff.mp (y 1).isLt)
    | 2 => rfl
    | 3 => rfl⟩

/-- The experts' array after region 1. -/
theorem final1 (c : Dev nD) : (dat1 V c).arrAt 5 cfg1.N
    = (fun i : S5x8x32x1024.Idx => row (V c main_v8) (V c main_arg6) (V c main_v9) (V c main_arg8) (V c main_v10) (i 0) (i 1) (i 2) (i 3) : FVec Ideal S5x8x32x1024 .f32) := by
  refine (dat1 V c).arrAt_eq_of_covers 5 _ (by decide +kernel) fun t _ y => ?_
  blk_simp
  rw [after1_5]
  obtain ⟨b, j, rfl⟩ := idx_row y
  rw [out_at V c t (((win1_5.blk t).view.emb (ix4 (0 : Fin 1) (0 : Fin 1) b j)) 0) (((win1_5.blk t).view.emb (ix4 (0 : Fin 1) (0 : Fin 1) b j)) 1)
    (by blk_simp [idx1 t]; exact Nat.add_zero _) (by blk_simp [idx1 t]; exact Nat.add_zero _)]
  refine congr (congrArg _ (Fin.ext ?_)) (Fin.ext ?_) <;> blk_simp [idx1 t]

end Cert.KernelIdeal.Ffn

end
-- ==== Proof.CombineModel.lean ====
/-
  THE COMBINATION'S BODY, ONE DEFINITION FOR ALL FIVE MODULES. The printed body of region 2 is unrolled over the five modules and
  their eight experts. Here the same value is written once for a module and with folds, in the program's own operations and order;
  `Proof/CombineRun.lean` says that the run leaves this value.
-/
module

public import proofs.«01_k».proof.Proof.Gen.KernelIdeal.Skeleton
public import Idealize.ShloMosaic.Lib.Pointwise

@[expose] public section

set_option maxRecDepth 16384

noncomputable section

namespace Cert.KernelIdeal.Combine

open Cert.KernelIdeal Cert.KernelIdeal.Gen Idealize.ShloMosaic

variable {F : FTy → Type} [FloatOps F]

/-- A module's eight logits lie within a row's forty; -/
theorem slices_module : ∀ i : Fin 5, S32x40.Slices ![0, 8 * i.val] S32x8 := by decide

/-- an expert's gate lies within its module's eight. -/
theorem slices_expert : ∀ e : Fin 8, S32x8.Slices ![0, e.val] S32x1 := by decide

/-- Module `i`'s gate logits: its eight columns of the product of the batch with the gate weights. -/
def logits (x : FVec F S32x1024 .f32) (wg : FVec F S1024x40 .f32) (i : Fin 5) : FVec F S32x8 .f32 :=
  extractStridedSlice S32x8 ![0, 8 * i.val] (k2_pay1 x wg) (slices_module i)

/-- The expert numbers along a row. -/
def experts : IVec S32x8 32 := iota .tc S32x8 32 [1] iota_S32x8_d1_w32

/-- A row's largest logit, and the indicator of the first expert that has it. -/
def best (lg : FVec F S32x8 .f32) : FVec F S32x1 .f32 :=
  shapeCast S32x1 (multiReduction .maximumf [1] S32 lg 0xFF800000#32 reduces_S32x8_S32 (.inl rfl) rfl) shapeCasts_S32_S32x1

/-- Where the first expert of a row with the largest logit is. -/
def first (lg : FVec F S32x8 .f32) : IVec S32x8 1 :=
  cmpi .eq experts (broadcastTo S32x8 (shapeCast S32x1 (multiReductionI .minsi [1] S32
    (select (cmpf .oeq lg (broadcastTo S32x8 (best lg) broadcasts_S32x1_S32x8)) experts (broadcast S32x8 8#32)) 2147483647#32 reduces_S32x8_S32 rfl)
    shapeCasts_S32_S32x1) broadcasts_S32x1_S32x8)

/-- The logits with the best expert of each row taken away. -/
def rest (lg : FVec F S32x8 .f32) : FVec F S32x8 .f32 :=
  select (first lg) (broadcast S32x8 (Scalar.ofBits .f32 0xFF800000#32)) lg

/-- The second best expert's exponential beside the best's. -/
def ratio (lg : FVec F S32x8 .f32) : FVec F S32x1 .f32 := exp (subf (best (rest lg)) (best lg))

/-- `1`, and `1` with the ratio added. -/
def one : FVec F S32x1 .f32 := broadcast S32x1 (Scalar.ofBits .f32 0x3F800000#32)

/-- A column spread over the experts an indicator picks, zero elsewhere. -/
def spread (k : IVec S32x8 1) (g : FVec F S32x1 .f32) : FVec F S32x8 .f32 :=
  select k (broadcastTo S32x8 (shapeCast S32x1 g shapeCasts_S32x1_S32x1) broadcasts_S32x1_S32x8) (broadcast S32x8 (Scalar.ofBits .f32 0x00000000#32))

/-- The gates of a batch: the two best experts of each row weighted by their softmax. -/
def gates (lg : FVec F S32x8 .f32) : FVec F S32x8 .f32 :=
  addf (spread (first lg) (divf one (addf one (ratio lg)))) (spread (first (rest lg)) (divf (ratio lg) (addf one (ratio lg))))

/-- Each expert's total over the batch. -/
def total (g : FVec F S32x8 .f32) : FVec F S1x8 .f32 :=
  shapeCast S1x8 (multiReduction .add [0] S8 g 0x00000000#32 reduces_S32x8_S8 (.inl rfl) rfl) shapeCasts_S8_S1x8

/-- Which gates are positive, as numbers. -/
def active (g : FVec F S32x8 .f32) : FVec F S32x8 .f32 :=
  sitofp .f32 (extui 32 (cmpf .ogt g (broadcast S32x8 (Scalar.ofBits .f32 0x00000000#32))) natLt_1_32)

/-- The sum of eight numbers. -/
def sum8 (v : FVec F S1x8 .f32) : F .f32 :=
  extractAt ![0, 0, 0] (shapeCast S1x1x1 (multiReduction .add [1, 2] S1 (shapeCast S1x1x8 v shapeCasts_S1x8_S1x1x8) 0x00000000#32
    reduces_S1x1x8_S1 (.inl rfl) rfl) shapeCasts_S1_S1x1x1) inpos_S1x1x1_p0_0_0

/-- The mean of eight numbers, their deviations from it, and the squared coefficient of variation. -/
def mean (v : FVec F S1x8 .f32) : F .f32 := Scalar.divf (sum8 v) (Scalar.ofBits .f32 0x41000000#32)

/-- The deviations from the mean. -/
def dev (v : FVec F S1x8 .f32) : FVec F S1x8 .f32 := subf v (broadcast S1x8 (mean v))

/-- The squared coefficient of variation. -/
def cv (v : FVec F S1x8 .f32) : F .f32 :=
  Scalar.divf (Scalar.divf (sum8 (mulf (dev v) (dev v))) (Scalar.ofBits .f32 0x40E00000#32))
    (Scalar.addf (Scalar.mulf (mean v) (mean v)) (Scalar.ofBits .f32 0x2EDBE6FF#32))

/-- What module `i` adds to the auxiliary loss. -/
def loss (g : FVec F S32x8 .f32) : F .f32 :=
  Scalar.mulf (Scalar.addf (cv (total g)) (cv (total (active g)))) (Scalar.ofBits .f32 0x3C23D70A#32)

/-- The auxiliary loss over the modules' gates. -/
def aux (g : Fin 5 → FVec F S32x8 .f32) : F .f32 :=
  [(0 : Fin 5), 1, 2, 3, 4].foldl (fun a i => Scalar.addf a (loss (g i))) (Scalar.ofBits .f32 0x00000000#32)

/-- One expert's rows, each weighted by its gate. -/
def weighted (g : FVec F S32x8 .f32) (p : Fin 8 → Vec F S1x1x32x1024 .f32) (e : Fin 8) : FVec F S32x1024 .f32 :=
  mulf (shapeCast S32x1024 (p e) shapeCasts_S1x1x32x1024_S32x1024)
    (broadcastTo S32x1024 (extractStridedSlice S32x1 ![0, e.val] g (slices_expert e)) broadcasts_S32x1_S32x1024)

/-- The experts' rows mixed by the gates. -/
def mix (g : FVec F S32x8 .f32) (p : Fin 8 → Vec F S1x1x32x1024 .f32) : FVec F S32x1024 .f32 :=
  [(1 : Fin 8), 2, 3, 4, 5, 6, 7].foldl (fun a e => addf a (weighted g p e)) (weighted g p 0)

/-- A module's mixture laid along the eight time steps. -/
def along (y : FVec F S32x1024 .f32) : FVec F S32x8x1024 .f32 :=
  broadcastTo S32x8x1024 (shapeCast S32x1x1024 y shapeCasts_S32x1024_S32x1x1024) broadcasts_S32x1x1024_S32x8x1024

/-- The polynomial in the input whose coefficients are the modules' mixtures, through the logistic function. -/
def poly (v : FVec F S32x8x1024 .f32) (y : Fin 5 → FVec F S32x1024 .f32) : FVec F S32x8x1024 .f32 :=
  have x : FVec F S32x8x1024 .f32 := shapeCast S32x8x1024 v shapeCasts_S32x8x1024_S32x8x1024
  addf (addf (addf (addf (mulf (mulf (mulf x x) (mulf x x)) (along (y 4))) (mulf (mulf (mulf x x) x) (along (y 3)))) (mulf (mulf x x) (along (y 2))))
    (mulf x (along (y 0)))) (along (y 1))

/-- The logistic function of every entry. -/
def logistic (p : FVec F S32x8x1024 .f32) : FVec F S32x8x1024 .f32 :=
  divf (broadcast S32x8x1024 (Scalar.ofBits .f32 0x3F800000#32)) (addf (broadcast S32x8x1024 (Scalar.ofBits .f32 0x3F800000#32))
    (exp (subf (broadcast S32x8x1024 (Scalar.ofBits .f32 0x00000000#32)) p)))

/-- The body's two results. -/
def out (v : FVec F S32x8x1024 .f32) (p : Fin 5 → Fin 8 → Vec F S1x1x32x1024 .f32) (x : FVec F S32x1024 .f32) (wg : FVec F S1024x40 .f32) :
    FVec F S32x8x1024 .f32 :=
  logistic (poly v fun i => mix (gates (logits x wg i)) (p i))

/-- The auxiliary loss from the stem and the gates' weights. -/
def auxOf (x : FVec F S32x1024 .f32) (wg : FVec F S1024x40 .f32) : F .f32 := aux fun i => gates (logits x wg i)

end Cert.KernelIdeal.Combine

end
-- ==== Proof.CombineRun.lean ====
/-
  THE COMBINATION'S RUN: the two values its body stores, as the program is printed, are those of `Proof/CombineModel.lean`.
-/
module

public import proofs.«01_k».proof.Proof.CombineModel
public import proofs.«01_k».proof.Proof.Gen.KernelIdeal.Frame

@[expose] public section

set_option maxRecDepth 16384

noncomputable section

namespace Cert.KernelIdeal.Combine

open Cert.KernelIdeal Cert.KernelIdeal.Gen Idealize.ShloMosaic

variable {F : FTy → Type} [FloatOps F]

/-- Every expert's rows lie within the block. -/
theorem inb_expert : ∀ (i : Fin 5) (e : Fin 8), ∀ a : Fin 4, (![i.val, e.val, 0, 0] : Fin 4 → ℕ) a + S1x1x32x1024.size a ≤ S5x8x32x1024.size a := by
  decide

/-- The body's loads, as the program writes them. -/
def ldV (arg0 : Memref sig .tc .vmem S32x8x1024 .f32) (harg0 : arg0.IsWhole) (x0 : Vec F S32x8x1024 .f32) : Vec F S32x8x1024 .f32 :=
  View.readAt (Elt F) arg0.view (Rect.unit ![0, 0, 0] S32x8x1024.size inb_S32x8x1024_S32x8x1024_0_0_0).toLoadRect (harg0.unread x0)

/-- What the body loads: an expert's rows, -/
def ldP (arg1 : Memref sig .tc .vmem S5x8x32x1024 .f32) (harg1 : arg1.IsWhole) (x1 : Vec F S5x8x32x1024 .f32) (i : Fin 5) (e : Fin 8) :
    Vec F S1x1x32x1024 .f32 :=
  View.readAt (Elt F) arg1.view (Rect.unit (s := S5x8x32x1024) ![i.val, e.val, 0, 0] S1x1x32x1024.size (inb_expert i e)).toLoadRect (harg1.unread x1)

/-- the stem, -/
def ldX (arg2 : Memref sig .tc .vmem S32x1024 .f32) (harg2 : arg2.IsWhole) (x2 : Vec F S32x1024 .f32) : Vec F S32x1024 .f32 :=
  View.readAt (Elt F) arg2.view (Rect.unit ![0, 0] S32x1024.size inb_S32x1024_S32x1024_0_0).toLoadRect (harg2.unread x2)

/-- and the gates' weights. -/
def ldG (arg3 : Memref sig .tc .vmem S1024x40 .f32) (harg3 : arg3.IsWhole) (x3 : Vec F S1024x40 .f32) : Vec F S1024x40 .f32 :=
  View.readAt (Elt F) arg3.view (Rect.unit ![0, 0] S1024x40.size inb_S1024x40_S1024x40_0_0).toLoadRect (harg3.unread x3)

/-- The body's first result is one piece, the whole of the output block. -/
theorem pieces_out (c : Dev nD) (arg0 : Memref sig .tc .vmem S32x8x1024 .f32) (harg0 : arg0.IsWhole) (arg1 : Memref sig .tc .vmem S5x8x32x1024 .f32) (harg1 : arg1.IsWhole) (arg2 : Memref sig .tc .vmem S32x1024 .f32) (harg2 : arg2.IsWhole) (arg3 : Memref sig .tc .vmem S1024x40 .f32) (harg3 : arg3.IsWhole) (arg4 : Memref sig .tc .vmem S32x8x1024 .f32) (harg4 : arg4.IsWhole) (arg5 : Memref sig .tc .smem S1x1 .f32) (harg5 : arg5.IsWhole)
    (x0 : Vec F S32x8x1024 .f32) (x1 : Vec F S5x8x32x1024 .f32) (x2 : Vec F S32x1024 .f32) (x3 : Vec F S1024x40 .f32) :
    (kernelRun2_A c arg0 harg0 arg1 harg1 arg2 harg2 arg3 harg3 arg4 harg4 arg5 harg5 x0 x1 x2 x3).1
      = [⟨Rect.unit ![0, 0, 0] S32x8x1024.size inb_S32x8x1024_S32x8x1024_0_0_0,
          out (ldV arg0 harg0 x0) (ldP arg1 harg1 x1) (ldX arg2 harg2 x2) (ldG arg3 harg3 x3)⟩] := by
  sl_kernel_rfl

/-- The body's second result is one piece, the auxiliary loss. -/
theorem pieces_aux (c : Dev nD) (arg0 : Memref sig .tc .vmem S32x8x1024 .f32) (harg0 : arg0.IsWhole) (arg1 : Memref sig .tc .vmem S5x8x32x1024 .f32) (harg1 : arg1.IsWhole) (arg2 : Memref sig .tc .vmem S32x1024 .f32) (harg2 : arg2.IsWhole) (arg3 : Memref sig .tc .vmem S1024x40 .f32) (harg3 : arg3.IsWhole) (arg4 : Memref sig .tc .vmem S32x8x1024 .f32) (harg4 : arg4.IsWhole) (arg5 : Memref sig .tc .smem S1x1 .f32) (harg5 : arg5.IsWhole)
    (x0 : Vec F S32x8x1024 .f32) (x1 : Vec F S5x8x32x1024 .f32) (x2 : Vec F S32x1024 .f32) (x3 : Vec F S1024x40 .f32) :
    (kernelRun2_A c arg0 harg0 arg1 harg1 arg2 harg2 arg3 harg3 arg4 harg4 arg5 harg5 x0 x1 x2 x3).2.1
      = [⟨Rect.unit ![0, 0] S1x1.size inb_S1x1_S1x1_0_0, fun _ => auxOf (ldX arg2 harg2 x2) (ldG arg3 harg3 x3)⟩] := by
  sl_kernel_rfl

end Cert.KernelIdeal.Combine

end
-- ==== Proof.CombineRead.lean ====
/-
  THE COMBINATION READ AT A POSITION.
-/
module

public import proofs.«01_k».proof.Proof.CombineModel
public import proofs.«01_k».proof.Proof.Moe

@[expose] public section

set_option maxRecDepth 16384

noncomputable section

namespace Cert.KernelIdeal.Combine

open Cert.KernelIdeal Cert.KernelIdeal.Gen Idealize.ShloMosaic

/-- A logit is the stem's product with its column. -/
theorem logits_at (x : FVec Ideal S32x1024 .f32) (wg : FVec Ideal S1024x40 .f32) (i : Fin 5) (b : Fin 32) (e : Fin 8) :
    logits x wg i (ix2 b e) = ∑ k : Fin 1024, x (ix2 b k) * wg (ix2 k (⟨8 * i.val + e.val, by omega⟩ : Fin 40)) := by
  unfold logits k2_pay1; pointwise

/-- A row's largest logit. -/
theorem best_at (lg : FVec Ideal S32x8 .f32) (b : Fin 32) : best lg (ix2 b (0 : Fin 1)) = Moe.top fun e : Fin 8 => lg (ix2 b e) := by
  unfold best Moe.top; pointwise [Moe.negInf]

open Classical in
/-- The mark of the first expert with the largest logit. -/
theorem first_at (lg : FVec Ideal S32x8 .f32) (b : Fin 32) (e : Fin 8) :
    first lg (ix2 b e) = BitVec.ofBool (decide (Moe.First (fun e => lg (ix2 b e)) e)) := by
  refine Eq.trans ?_ (Moe.first_eq (fun e => lg (ix2 b e)) e)
  unfold first experts; pointwise [best_at]

/-- A choice by an indicator. -/
theorem select_ofBool (p : Bool) (a b : EReal) : Scalar.select (BitVec.ofBool p) a b = if p = true then a else b := by
  cases p <;> rfl

open Classical in
/-- A row without its best expert. -/
theorem rest_at (lg : FVec Ideal S32x8 .f32) (b : Fin 32) (e : Fin 8) : rest lg (ix2 b e) = Moe.rest (fun e => lg (ix2 b e)) e := by
  unfold rest Moe.rest; pointwise [Moe.negInf]
  rw [first_at, select_ofBool]
  simp only [decide_eq_true_eq]

open Classical in
/-- A row's gates. -/
theorem gates_at (lg : FVec Ideal S32x8 .f32) (b : Fin 32) (e : Fin 8) : gates lg (ix2 b e) = Moe.gate (fun e => lg (ix2 b e)) e := by
  unfold gates spread ratio one Moe.gate Moe.ratio; pointwise [best_at]
  simp only [first_at, rest_at, select_ofBool, decide_eq_true_eq]

/-- An expert's total over the batch. -/
theorem total_at (g : FVec Ideal S32x8 .f32) (e : Fin 8) : total g (ix2 (0 : Fin 1) e) = ∑ b : Fin 32, g (ix2 b e) := by
  unfold total; pointwise

/-- A true bit converts to one, -/
theorem sitofp_one : (FloatOps.sitofp (F := Ideal) FTy.f32 (BitVec.setWidth 32 (BitVec.ofBool true)) : EReal) = 1 := by
  show ((((BitVec.setWidth 32 (BitVec.ofBool true)).toInt : ℤ) : ℝ) : EReal) = 1
  rw [show (BitVec.setWidth 32 (BitVec.ofBool true)).toInt = 1 from by decide]
  norm_num

/-- a false one to zero. -/
theorem sitofp_zero : (FloatOps.sitofp (F := Ideal) FTy.f32 (BitVec.setWidth 32 (BitVec.ofBool false)) : EReal) = 0 := by
  show ((((BitVec.setWidth 32 (BitVec.ofBool false)).toInt : ℤ) : ℝ) : EReal) = 0
  norm_num

/-- Whether a gate is positive, as a number. -/
theorem active_at (g : FVec Ideal S32x8 .f32) (b : Fin 32) (e : Fin 8) : active g (ix2 b e) = if (0 : EReal) < g (ix2 b e) then (1 : EReal) else 0 := by
  unfold active; pointwise
  by_cases h : (0 : EReal) < g (ix2 b e)
  · rw [if_pos h, decide_eq_true h]; exact sitofp_one
  · rw [if_neg h, decide_eq_false h]; exact sitofp_zero

/-- The sum over eight experts. -/
theorem sum8_at (v : FVec Ideal S1x8 .f32) : sum8 v = ∑ e : Fin 8, v (ix2 (0 : Fin 1) e) := by
  unfold sum8; pointwise
  exact Fin.sum_univ_one _

/-- The squared coefficient of variation of a row of eight. -/
theorem cv_at (v : FVec Ideal S1x8 .f32) : cv v = Moe.cv fun e => v (ix2 (0 : Fin 1) e) := by
  have hm : mean v = Moe.mean fun e => v (ix2 (0 : Fin 1) e) := by
    unfold mean Moe.mean; pointwise [sum8_at]
  have hd : ∀ e, dev v (ix2 (0 : Fin 1) e) = v (ix2 (0 : Fin 1) e) - Moe.mean fun e => v (ix2 (0 : Fin 1) e) := fun e => by
    unfold dev; pointwise [hm]
  have hs : sum8 (mulf (dev v) (dev v)) = ∑ e : Fin 8, dev v (ix2 (0 : Fin 1) e) * dev v (ix2 (0 : Fin 1) e) := sum8_at _
  unfold cv Moe.cv
  rw [hs, hm]
  simp only [hd]
  rfl

/-- A module's loss. -/
theorem loss_at (g : FVec Ideal S32x8 .f32) : loss g = Moe.loss fun b e => g (ix2 b e) := by
  unfold loss Moe.loss
  rw [cv_at, cv_at]
  simp only [total_at, active_at]
  rfl

/-- The auxiliary loss is the modules' losses added. -/
theorem aux_at (g : Fin 5 → FVec Ideal S32x8 .f32) : aux g = ∑ i : Fin 5, Moe.loss fun b e => g i (ix2 b e) := by
  have h : ∀ (a : EReal) (l : List (Fin 5)), l.foldl (fun a i => (Scalar.addf (F := Ideal) a (loss (g i)) : EReal)) a = a + (l.map fun i => Moe.loss fun b e => g i (ix2 b e)).sum := by
    intro a l
    induction l generalizing a with
    | nil => simp
    | cons i l ih => rw [List.foldl_cons, ih, List.map_cons, List.sum_cons, ← add_assoc, loss_at]; rfl
  unfold aux
  rw [h, Fin.sum_univ_def]
  exact (congrArg (· + _) (by pointwise)).trans (zero_add _)

/-- One expert's row times its gate. -/
theorem weighted_at (g : FVec Ideal S32x8 .f32) (p : Fin 8 → Vec Ideal S1x1x32x1024 .f32) (e : Fin 8) (b : Fin 32) (j : Fin 1024) :
    weighted g p e (ix2 b j) = p e (ix4 (0 : Fin 1) (0 : Fin 1) b j) * g (ix2 b e) := by
  unfold weighted; pointwise

/-- A module's mixture is the sum of its experts' weighted rows. -/
theorem mix_at (g : FVec Ideal S32x8 .f32) (p : Fin 8 → Vec Ideal S1x1x32x1024 .f32) (b : Fin 32) (j : Fin 1024) :
    mix g p (ix2 b j) = ∑ e : Fin 8, p e (ix4 (0 : Fin 1) (0 : Fin 1) b j) * g (ix2 b e) := by
  have h : ∀ (l : List (Fin 8)) (a : FVec Ideal S32x1024 .f32), (l.foldl (fun a e => addf a (weighted g p e)) a) (ix2 b j)
      = a (ix2 b j) + (l.map fun e => p e (ix4 (0 : Fin 1) (0 : Fin 1) b j) * g (ix2 b e)).sum := by
    intro l
    induction l with
    | nil => intro a; simp
    | cons e l ih =>
      intro a
      rw [List.foldl_cons, ih, List.map_cons, List.sum_cons, ← add_assoc, ← weighted_at]
      rfl
  unfold mix
  rw [h, weighted_at, Fin.sum_univ_def]
  rfl

/-- A row per image is the same at every step. -/
theorem along_at (y : FVec Ideal S32x1024 .f32) (b : Fin 32) (t : Fin 8) (j : Fin 1024) : along y (ix3 b t j) = y (ix2 b j) := by
  unfold along; pointwise

/-- The polynomial at a position. -/
theorem poly_at (v : FVec Ideal S32x8x1024 .f32) (y : Fin 5 → FVec Ideal S32x1024 .f32) (b : Fin 32) (t : Fin 8) (j : Fin 1024) :
    poly v y (ix3 b t j) = Moe.poly (v (ix3 b t j)) fun i => y i (ix2 b j) := by
  unfold poly Moe.poly; pointwise [along_at]

/-- The logistic function at a position. -/
theorem logistic_at (p : FVec Ideal S32x8x1024 .f32) (b : Fin 32) (t : Fin 8) (j : Fin 1024) : logistic p (ix3 b t j) = Moe.logistic (p (ix3 b t j)) := by
  unfold logistic Moe.logistic; pointwise

/-- The body's first result at a position. -/
theorem out_at (v : FVec Ideal S32x8x1024 .f32) (p : Fin 5 → Fin 8 → Vec Ideal S1x1x32x1024 .f32) (x : FVec Ideal S32x1024 .f32) (wg : FVec Ideal S1024x40 .f32)
    (b : Fin 32) (t : Fin 8) (j : Fin 1024) :
    out v p x wg (ix3 b t j) = Moe.logistic (Moe.poly (v (ix3 b t j)) fun i => ∑ e : Fin 8, p i e (ix4 (0 : Fin 1) (0 : Fin 1) b j)
      * Moe.gate (fun e => ∑ k : Fin 1024, x (ix2 b k) * wg (ix2 k (⟨8 * i.val + e.val, by omega⟩ : Fin 40))) e) := by
  unfold out
  rw [logistic_at, poly_at]
  simp only [mix_at, gates_at, logits_at]

/-- The auxiliary loss. -/
theorem auxOf_eq (x : FVec Ideal S32x1024 .f32) (wg : FVec Ideal S1024x40 .f32) :
    auxOf x wg = ∑ i : Fin 5, Moe.loss fun b => Moe.gate fun e => ∑ k : Fin 1024, x (ix2 b k) * wg (ix2 k (⟨8 * i.val + e.val, by omega⟩ : Fin 40)) := by
  unfold auxOf
  rw [aux_at]
  simp only [gates_at, logits_at]

end Cert.KernelIdeal.Combine

end
-- ==== Proof.CombineArr.lean ====
/-
  THE COMBINATION'S ARRAYS: after region 2 its two results stand in the arrays, whatever the region finds in its operands.
-/
module

public import proofs.«01_k».proof.Proof.CombineRun
public import proofs.«01_k».proof.Proof.CombineRead
public import Idealize.ShloMosaic.Lib.Pipeline.ValueKit

@[expose] public section

set_option maxRecDepth 16384

noncomputable section

namespace Cert.KernelIdeal.Combine

open Cert.KernelIdeal Cert.KernelIdeal.Gen Idealize.ShloMosaic Idealize.ShloMosaic.TcCoe Idealize.SL.Sem
open Idealize.ShloMosaic.Pipeline (Dat)

/-- Each load of the body, read off the block it loads from. -/
theorem ldV_eq (arg0 : Memref sig .tc .vmem S32x8x1024 .f32) (h : arg0.IsWhole) (x : Vec Ideal S32x8x1024 .f32) : ldV arg0 h x = x := by
  unfold ldV
  rw [View.readAt_eq_ld, Memref.IsWhole.read_unread]
  simp (disch := decide) only [View.ld_unit_lit']

/-- Loading the whole stem block gives it back; -/
theorem ldX_eq (arg2 : Memref sig .tc .vmem S32x1024 .f32) (h : arg2.IsWhole) (x : Vec Ideal S32x1024 .f32) : ldX arg2 h x = x := by
  unfold ldX
  rw [View.readAt_eq_ld, Memref.IsWhole.read_unread]
  simp (disch := decide) only [View.ld_unit_lit']

/-- and so for the gates' weights. -/
theorem ldG_eq (arg3 : Memref sig .tc .vmem S1024x40 .f32) (h : arg3.IsWhole) (x : Vec Ideal S1024x40 .f32) : ldG arg3 h x = x := by
  unfold ldG
  rw [View.readAt_eq_ld, Memref.IsWhole.read_unread]
  simp (disch := decide) only [View.ld_unit_lit']

/-- Two positions of four axes are equal when their coordinates are. -/
theorem ext4 {n₀ n₁ n₂ n₃ : ℕ} {x y : (⟨4, ![n₀, n₁, n₂, n₃]⟩ : Shape).Idx} (h₀ : (x 0).val = (y 0).val) (h₁ : (x 1).val = (y 1).val)
    (h₂ : (x 2).val = (y 2).val) (h₃ : (x 3).val = (y 3).val) : x = y := funext fun a => by
  match a with
  | 0 => exact Fin.ext h₀
  | 1 => exact Fin.ext h₁
  | 2 => exact Fin.ext h₂
  | 3 => exact Fin.ext h₃

/-- The load of module `i`'s expert `e` is that expert's rows. -/
theorem ldP_at (arg1 : Memref sig .tc .vmem S5x8x32x1024 .f32) (h : arg1.IsWhole) (x : Vec Ideal S5x8x32x1024 .f32) (i : Fin 5) (e : Fin 8)
    (b : Fin 32) (j : Fin 1024) : ldP arg1 h x i e (ix4 (0 : Fin 1) (0 : Fin 1) b j) = x (ix4 i e b j) := by
  unfold ldP
  rw [View.readAt_eq_ld, Memref.IsWhole.read_unread]
  refine congrArg x (ext4 ?_ ?_ ?_ ?_) <;> simp [LoadRect.idx, Rect.unit, ix4]

/-- Every window's block is its whole array. -/
theorem idx2 : ∀ t : Fin cfg2.N, win2_0.index t = ![0, 0, 0] ∧ win2_1.index t = ![0, 0, 0, 0] ∧ win2_2.index t = ![0, 0]
    ∧ win2_3.index t = ![0, 0] ∧ win2_4.index t = ![0, 0, 0] ∧ win2_5.index t = ![0, 0] :=
  (by decide +kernel : ∀ t : Fin grid2.N, _)

variable (V : (c : Dev nD) → (b : Ref sig .tc) → Buf (Elt Ideal) ((c : Thread nD τ).loc b))

/-- The gate logit of module `i`, image `b` and expert `e` over the operands of region 2. -/
def logit (X : FVec Ideal S32x1024 .f32) (G : FVec Ideal S1024x40 .f32) (i : Fin 5) (b : Fin 32) (e : Fin 8) : EReal :=
  ∑ k : Fin 1024, X (ix2 b k) * G (ix2 k (⟨8 * i.val + e.val, by omega⟩ : Fin 40))

/-- The output at a position over the operands of region 2. -/
def outAt (X0 : FVec Ideal S32x8x1024 .f32) (P : FVec Ideal S5x8x32x1024 .f32) (X : FVec Ideal S32x1024 .f32) (G : FVec Ideal S1024x40 .f32)
    (b : Fin 32) (t : Fin 8) (j : Fin 1024) : EReal :=
  Moe.logistic (Moe.poly (X0 (ix3 b t j)) fun i => ∑ e : Fin 8, P (ix4 i e b j) * Moe.gate (logit X G i b) e)

/-- The body's first result at a position, off its operands' blocks. -/
theorem run_at (arg0 : Memref sig .tc .vmem S32x8x1024 .f32) (h0 : arg0.IsWhole) (arg1 : Memref sig .tc .vmem S5x8x32x1024 .f32) (h1 : arg1.IsWhole)
    (arg2 : Memref sig .tc .vmem S32x1024 .f32) (h2 : arg2.IsWhole) (arg3 : Memref sig .tc .vmem S1024x40 .f32) (h3 : arg3.IsWhole)
    (X0 : Vec Ideal S32x8x1024 .f32) (P : Vec Ideal S5x8x32x1024 .f32) (X : Vec Ideal S32x1024 .f32) (G : Vec Ideal S1024x40 .f32)
    (b : Fin 32) (d : Fin 8) (j : Fin 1024) :
    out (ldV arg0 h0 X0) (ldP arg1 h1 P) (ldX arg2 h2 X) (ldG arg3 h3 G) (ix3 b d j) = outAt X0 P X G b d j := by
  rw [ldV_eq, ldX_eq, ldG_eq, out_at]
  simp only [ldP_at]
  unfold outAt logit
  rfl

/-- A position of the output by its image, step and lane. -/
theorem idx_pos (y : S32x8x1024.Idx) : ∃ (b : Fin 32) (d : Fin 8) (j : Fin 1024), y = ix3 b d j :=
  ⟨y 0, y 1, y 2, funext fun a => by
    match a with
    | 0 => rfl
    | 1 => rfl
    | 2 => rfl⟩

/-- Each operand's block is the operand. -/
theorem blk0 (c : Dev nD) (t : Fin cfg2.N) : iblk2 V c 0 t = V c main_v12 := by blk_ext! [iblk2, idx2 t]

/-- The one block of each further operand is the whole array: the experts' rows, -/
theorem blk1 (c : Dev nD) (t : Fin cfg2.N) : iblk2 V c 1 t = V c main_v11 := by blk_ext! [iblk2, idx2 t]

/-- the stem, -/
theorem blk2 (c : Dev nD) (t : Fin cfg2.N) : iblk2 V c 2 t = V c main_v8 := by blk_ext! [iblk2, idx2 t]

/-- and the gates' weights. -/
theorem blk3 (c : Dev nD) (t : Fin cfg2.N) : iblk2 V c 3 t = V c main_v6 := by blk_ext! [iblk2, idx2 t]

/-- What the body leaves of the first result. -/
theorem left4 (c : Dev nD) (t : Fin cfg2.N) (b : Fin 32) (d : Fin 8) (j : Fin 1024) : (outsAt2 V c t).1 (ix3 b d j)
    = outAt (V c main_v12) (V c main_v11) (V c main_v8) (V c main_v6) b d j := by
  unfold outsAt2
  dsimp only
  unfold out2_A_4
  rw [pieces_out, View.read_writes_junk_eq_canon]
  simp (disch := decide) only [View.canon_cons_unit_lit']
  rw [blk0, blk1, blk2, blk3, run_at]

/-- The output's array after region 2. -/
theorem final4 (c : Dev nD) : (dat2 V c).arrAt 4 cfg2.N
    = (fun i : S32x8x1024.Idx => outAt (V c main_v12) (V c main_v11) (V c main_v8) (V c main_v6) (i 0) (i 1) (i 2) : FVec Ideal S32x8x1024 .f32) := by
  refine (dat2 V c).arrAt_eq_of_covers 4 _ (by decide +kernel) fun t _ y => ?_
  blk_simp
  rw [after2_4]
  obtain ⟨b, d, j, rfl⟩ := idx_pos y
  rw [left4]
  have h0 : (((View.whole main_v13_0).slice (win2_4.rect t)).emb (ix3 b d j)) 0 = b := Fin.ext (by blk_simp [idx2 t])
  have h1 : (((View.whole main_v13_0).slice (win2_4.rect t)).emb (ix3 b d j)) 1 = d := Fin.ext (by blk_simp [idx2 t])
  have h2 : (((View.whole main_v13_0).slice (win2_4.rect t)).emb (ix3 b d j)) 2 = j := Fin.ext (by blk_simp [idx2 t])
  exact (congr (congr (congrArg _ h0) h1) h2).symm

/-- The auxiliary loss after region 2. -/
theorem final5 (c : Dev nD) : (dat2 V c).arrAt 5 cfg2.N
    = (fun _ : S1x1.Idx => ∑ i : Fin 5, Moe.loss fun b => Moe.gate (logit (V c main_v8) (V c main_v6) i b) : FVec Ideal S1x1 .f32) := by
  refine (dat2 V c).arrAt_eq_of_covers 5 _ (by decide +kernel) fun t _ y => ?_
  blk_simp
  rw [after2_5]
  unfold outsAt2
  dsimp only
  unfold out2_A_5
  rw [pieces_aux, View.read_writes_junk_eq_canon]
  simp (disch := decide) only [View.canon_cons_unit_lit']
  rw [ldX_eq, ldG_eq, blk2, blk3, auxOf_eq]
  rfl

end Cert.KernelIdeal.Combine

end
-- ==== Proof.KernelEntry.lean ====
/-
  WHAT THE KERNEL'S REGIONS FIND: the contents of each region's operands, read at a position of the argument arrays.
-/
module

public import proofs.«01_k».proof.Proof.Spec
public import proofs.«01_k».proof.Proof.StemArr
public import proofs.«01_k».proof.Proof.Ffn
public import proofs.«01_k».proof.Proof.CombineArr

@[expose] public section

set_option maxRecDepth 16384

noncomputable section

namespace Cert.KernelIdeal.Entry

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The argument arrays in a memory. -/
def args (c : Dev nD) : Spec.Args where
  a0 := m ((c : Thread nD τ).loc main_arg0)
  a1 := m ((c : Thread nD τ).loc main_arg1)
  a2 := m ((c : Thread nD τ).loc main_arg2)
  a3 := m ((c : Thread nD τ).loc main_arg3)
  a4 := m ((c : Thread nD τ).loc main_arg4)
  a5 := m ((c : Thread nD τ).loc main_arg5)
  a6 := m ((c : Thread nD τ).loc main_arg6)
  a7 := m ((c : Thread nD τ).loc main_arg7)
  a8 := m ((c : Thread nD τ).loc main_arg8)
  a9 := m ((c : Thread nD τ).loc main_arg9)

/-! ## Before region 0 -/

/-- The host's arrays before region 0: the input by lanes, -/
theorem v0_eq (c : Dev nD) : V1 m ρ c main_v0 = shapeCast S32x8x1024 (m ((c : Thread nD τ).loc main_arg0)) shapeCasts_S32x8x1x32x32_S32x8x1024 := by
  show StableHlo.after hostOps0 (W0 m ρ c) _ = _; after_results <;> rfl

/-- the first convolution's weights, -/
theorem v1_eq (c : Dev nD) : V1 m ρ c main_v1 = shapeCast S10x27 (m ((c : Thread nD τ).loc main_arg1)) shapeCasts_S10x1x3x3x3_S10x27 := by
  show StableHlo.after hostOps0 (W0 m ρ c) _ = _; after_results <;> rfl

/-- its biases, -/
theorem v2_eq (c : Dev nD) : V1 m ρ c main_v2 = shapeCast S1x10 (m ((c : Thread nD τ).loc main_arg2)) shapeCasts_S10_S1x10 := by
  show StableHlo.after hostOps0 (W0 m ρ c) _ = _; after_results <;> rfl

/-- the second convolution's weights, -/
theorem v3_eq (c : Dev nD) : V1 m ρ c main_v3 = shapeCast S10x72 (m ((c : Thread nD τ).loc main_arg3)) shapeCasts_S1x10x8x3x3_S10x72 := by
  show StableHlo.after hostOps0 (W0 m ρ c) _ = _; after_results <;> rfl

/-- its bias, -/
theorem v4_eq (c : Dev nD) : V1 m ρ c main_v4 = shapeCast S1x1 (m ((c : Thread nD τ).loc main_arg4)) shapeCasts_S1_S1x1 := by
  show StableHlo.after hostOps0 (W0 m ρ c) _ = _; after_results <;> rfl

/-- and the gates' weights, all modules' columns side by side. -/
theorem v6_eq (c : Dev nD) : V1 m ρ c main_v6 = shapeCast S1024x40
    (transpose S1024x5x8 [1, 0, 2] (m ((c : Thread nD τ).loc main_arg5)) transposes_S5x1024x8_S1024x5x8_1_0_2) shapeCasts_S1024x5x8_S1024x40 := by
  show StableHlo.after hostOps0 (W0 m ρ c) _ = _; after_results <;> rfl

/-- The same arrays at a position: the input, -/
theorem v0_at (c : Dev nD) (b : Fin 32) (d : Fin 8) (p : Fin 1024) :
    V1 m ρ c main_v0 (ix3 b d p) = (args m c).a0 (ix5 b d (0 : Fin 1) (Spec.hi p) (Spec.lo p)) := by
  rw [v0_eq]; unfold Spec.hi Spec.lo args; pointwise

/-- the first convolution's weights, -/
theorem v1_at (c : Dev nD) (k : Fin 10) (kd kh kw : Fin 3) :
    V1 m ρ c main_v1 (ix2 k (⟨kd.val * 9 + kh.val * 3 + kw.val, Stem.tap27 kd kh kw⟩ : Fin 27)) = (args m c).a1 (ix5 k (0 : Fin 1) kd kh kw) := by
  rw [v1_eq]; unfold args; pointwise

/-- its biases, -/
theorem v2_at (c : Dev nD) (k : Fin 10) : V1 m ρ c main_v2 (ix2 (0 : Fin 1) k) = (args m c).a2 (ix1 k) := by
  rw [v2_eq]; unfold args; pointwise

/-- the second convolution's weights, -/
theorem v3_at (c : Dev nD) (k : Fin 10) (d : Fin 8) (kh kw : Fin 3) :
    V1 m ρ c main_v3 (ix2 k (⟨d.val * 9 + (kh.val * 3 + kw.val), Stem.tap72 d kh kw⟩ : Fin 72)) = (args m c).a3 (ix5 (0 : Fin 1) k d kh kw) := by
  rw [v3_eq]
  refine shapeCast_apply (s := S1x10x8x3x3) (t := S10x72) _ _ _ (ix5 (0 : Fin 1) k d kh kw) ?_
  rw [Shape.rowMajor_val_five, Shape.rowMajor_val_two]
  simp [ix5, ix2]
  omega

/-- its bias, -/
theorem v4_at (c : Dev nD) : V1 m ρ c main_v4 (ix2 (0 : Fin 1) (0 : Fin 1)) = (args m c).a4 (ix1 (0 : Fin 1)) := by
  rw [v4_eq]; unfold args; pointwise

/-- and the gates' weights. -/
theorem v6_at (c : Dev nD) (k : Fin 1024) (i : Fin 5) (e : Fin 8) :
    V1 m ρ c main_v6 (ix2 k (⟨8 * i.val + e.val, by omega⟩ : Fin 40)) = (args m c).a5 (ix3 i k e) := by
  rw [v6_eq]; unfold args; pointwise

/-- The stem the first region leaves for image `b`. -/
theorem stem_eq (c : Dev nD) (b : Fin 32) (p : Fin 1024) :
    Stem.stemOf (V1 m ρ c main_v0) (V1 m ρ c main_v1) (V1 m ρ c main_v2) (V1 m ρ c main_v3) (V1 m ρ c main_v4) b (ix3 (0 : Fin 1) (0 : Fin 1) p)
    = Spec.stem (args m c) b p := by
  unfold Stem.stemOf
  rw [Stem.stem_at]
  have himg : k0_pay2 (Stem.imgOf (V1 m ρ c main_v0) b) = Spec.img (args m c) b := by
    funext y
    rw [eq_ix2 y]
    unfold k0_pay2 Stem.imgOf Spec.img
    pointwise [v0_at m ρ c]
  have hconv : ∀ k : Fin 10, Stem.conv1 (k0_pay2 (Stem.imgOf (V1 m ρ c main_v0) b))
      (fun kd kh kw => V1 m ρ c main_v1 (ix2 k (⟨kd.val * 9 + kh.val * 3 + kw.val, Stem.tap27 kd kh kw⟩ : Fin 27)))
      (V1 m ρ c main_v2 (ix2 (0 : Fin 1) k)) = Spec.conv (args m c) b k := by
    intro k
    funext y
    obtain ⟨d, q, rfl⟩ : ∃ (d : Fin 8) (q : Fin 1024), y = ix2 d q := ⟨y 0, y 1, eq_ix2 y⟩
    rw [Stem.conv1_at, v2_at m ρ c, himg]
    simp only [Stem.tapV, v1_at m ρ c]
    rfl
  simp only [hconv, Stem.tap2V, v3_at m ρ c, v4_at m ρ c]
  rfl

/-! ## Before region 1 -/

/-- Region 1 finds the stem, -/
theorem v8_at (c : Dev nD) (b : Fin 32) (p : Fin 1024) : V3 m ρ c main_v8 (ix2 b p) = Spec.stem (args m c) b p := by
  have h : V3 m ρ c main_v8 = shapeCast S32x1024 (W2 m ρ c (Proc.devRef .tc main_v7)) shapeCasts_S32x1x1024_S32x1024 := by
    show StableHlo.after hostOps1 (W2 m ρ c) _ = _; after_results <;> rfl
  have h7 : W2 m ρ c (Proc.devRef .tc main_v7) = _ := (W2_arr m ρ c 5).trans (Stem.final0 (V1 m ρ) c)
  rw [h, h7]
  pointwise [stem_eq m ρ c]

/-- the hidden layers' biases, -/
theorem v9_at (c : Dev nD) (i : Fin 5) (e : Fin 8) (h : Fin 2048) :
    V3 m ρ c main_v9 (ix4 i e (0 : Fin 1) h) = (args m c).a7 (ix3 i e h) := by
  have h9 : V3 m ρ c main_v9 = shapeCast S5x8x1x2048 (W2 m ρ c (Proc.devRef .tc main_arg7)) shapeCasts_S5x8x2048_S5x8x1x2048 := by
    show StableHlo.after hostOps1 (W2 m ρ c) _ = _; after_results <;> rfl
  rw [h9, W2_args m ρ c main_arg7 (by decide)]
  unfold args; pointwise

/-- and the output layers' biases. -/
theorem v10_at (c : Dev nD) (i : Fin 5) (e : Fin 8) (j : Fin 1024) :
    V3 m ρ c main_v10 (ix4 i e (0 : Fin 1) j) = (args m c).a9 (ix3 i e j) := by
  have h9 : V3 m ρ c main_v10 = shapeCast S5x8x1x1024 (W2 m ρ c (Proc.devRef .tc main_arg9)) shapeCasts_S5x8x1024_S5x8x1x1024 := by
    show StableHlo.after hostOps1 (W2 m ρ c) _ = _; after_results <;> rfl
  rw [h9, W2_args m ρ c main_arg9 (by decide)]
  unfold args; pointwise

/-- The row the second region leaves. -/
theorem row_eq (c : Dev nD) (i : Fin 5) (e : Fin 8) (b : Fin 32) :
    Ffn.row (V3 m ρ c main_v8) (V3 m ρ c main_arg6) (V3 m ρ c main_v9) (V3 m ρ c main_arg8) (V3 m ρ c main_v10) i e b = Spec.row (args m c) i e b := by
  have h6 : V3 m ρ c main_arg6 = (args m c).a6 := W3_args m ρ c main_arg6 (by decide)
  have h8 : V3 m ρ c main_arg8 = (args m c).a8 := W3_args m ρ c main_arg8 (by decide)
  unfold Ffn.row Spec.row
  simp only [v8_at m ρ c, v9_at m ρ c, v10_at m ρ c, h6, h8]

/-! ## Before region 2 -/

/-- Region 2 finds the input, -/
theorem v12_at (c : Dev nD) (b : Fin 32) (d : Fin 8) (p : Fin 1024) :
    V5 m ρ c main_v12 (ix3 b d p) = (args m c).a0 (ix5 b d (0 : Fin 1) (Spec.hi p) (Spec.lo p)) := by
  have h : V5 m ρ c main_v12 = shapeCast S32x8x1024 (W4 m ρ c (Proc.devRef .tc main_arg0)) shapeCasts_S32x8x1x32x32_S32x8x1024 := by
    show StableHlo.after hostOps2 (W4 m ρ c) _ = _; after_results <;> rfl
  rw [h, W4_args m ρ c main_arg0 (by decide)]
  unfold Spec.hi Spec.lo args; pointwise

/-- the experts' rows, -/
theorem v11_at (c : Dev nD) (i : Fin 5) (e : Fin 8) (b : Fin 32) (j : Fin 1024) :
    V5 m ρ c main_v11 (ix4 i e b j) = Spec.row (args m c) i e b j := by
  have h : V5 m ρ c main_v11 = _ := (W5_of m ρ c main_v11 (by decide)).trans ((W4_arr m ρ c 5).trans (Ffn.final1 (V3 m ρ) c))
  rw [h]
  exact congrFun (row_eq m ρ c i e b) j

/-- the stem, -/
theorem v8_at5 (c : Dev nD) (b : Fin 32) (p : Fin 1024) : V5 m ρ c main_v8 (ix2 b p) = Spec.stem (args m c) b p := by
  have h : V5 m ρ c main_v8 = V3 m ρ c main_v8 := (W5_of m ρ c main_v8 (by decide)).trans (W4_of m ρ c main_v8 (by decide))
  rw [h, v8_at]

/-- and the gates' weights. -/
theorem v6_at5 (c : Dev nD) (k : Fin 1024) (i : Fin 5) (e : Fin 8) :
    V5 m ρ c main_v6 (ix2 k (⟨8 * i.val + e.val, by omega⟩ : Fin 40)) = (args m c).a5 (ix3 i k e) := by
  have h : V5 m ρ c main_v6 = V1 m ρ c main_v6 := (W5_of m ρ c main_v6 (by decide)).trans ((W4_of m ρ c main_v6 (by decide)).trans
    ((W3_of m ρ c main_v6 (by decide)).trans (W2_of m ρ c main_v6 (by decide))))
  rw [h, v6_at]

/-- Its logits are the specification's. -/
theorem logit_eq (c : Dev nD) (i : Fin 5) (b : Fin 32) :
    Combine.logit (V5 m ρ c main_v8) (V5 m ρ c main_v6) i b = Spec.logit (args m c) i b := by
  funext e
  unfold Combine.logit Spec.logit
  simp only [v8_at5 m ρ c, v6_at5 m ρ c]

/-! ## The results -/

/-- The kernel's first result is the specification's output, -/
theorem out_at (c : Dev nD) (b : Fin 32) (t : Fin 8) (r s : Fin 32) :
    W7 m ρ c (Proc.devRef .tc main_v14) (ix5 b t (0 : Fin 1) r s) = Spec.out (args m c) b t r s := by
  have h : W7 m ρ c (Proc.devRef .tc main_v14) = shapeCast S32x8x1x32x32 (W6 m ρ c (Proc.devRef .tc main_v13_0)) shapeCasts_S32x8x1024_S32x8x1x32x32 := by
    show StableHlo.after hostOps3 (W6 m ρ c) _ = _; after_results <;> rfl
  have h6 : W6 m ρ c (Proc.devRef .tc main_v13_0) = _ := (W6_arr m ρ c 4).trans (Combine.final4 (V5 m ρ) c)
  rw [h, h6]
  refine (shapeCast_apply (s := S32x8x1024) (t := S32x8x1x32x32) _ _ _ (ix3 b t (⟨r.val * 32 + s.val, by omega⟩ : Fin 1024)) ?_).trans ?_
  · rw [Shape.rowMajor_val_five, Shape.rowMajor_val_three]
    simp [ix5, ix3]
    try omega
  show Combine.outAt _ _ _ _ b t (⟨r.val * 32 + s.val, by omega⟩ : Fin 1024) = _
  unfold Combine.outAt Spec.out Spec.gate
  have hr : Spec.hi (⟨r.val * 32 + s.val, by omega⟩ : Fin 1024) = r := by unfold Spec.hi; ext; simp; omega
  have hs : Spec.lo (⟨r.val * 32 + s.val, by omega⟩ : Fin 1024) = s := by unfold Spec.lo; ext; simp
  simp only [v12_at m ρ c, v11_at m ρ c, logit_eq m ρ c, hr, hs]

/-- and its second the auxiliary loss. -/
theorem aux_eq (c : Dev nD) : W7 m ρ c (Proc.devRef .tc main_v15) = fun _ => Spec.aux (args m c) := by
  have h : W7 m ρ c (Proc.devRef .tc main_v15) = shapeCast S_ (W6 m ρ c (Proc.devRef .tc main_v13_1)) shapeCasts_S1x1_S_ := by
    show StableHlo.after hostOps3 (W6 m ρ c) _ = _; after_results <;> rfl
  have h6 : W6 m ρ c (Proc.devRef .tc main_v13_1) = _ := (W6_arr m ρ c 5).trans (Combine.final5 (V5 m ρ) c)
  rw [h, h6]
  funext y
  unfold Spec.aux Spec.gate
  simp only [logit_eq m ρ c]
  rfl

end Cert.KernelIdeal.Entry

end
-- ==== Proof.KernelRun.lean ====
/-
  WHAT THE KERNEL'S PROGRAM LEAVES: from any memory with zero counters every execution terminates with the two results at the
  contents after the last host operation and every argument as launched.
-/
module

public import proofs.«01_k».proof.Proof.Gen.KernelIdeal.Frame
public import proofs.«01_k».proof.Proof.Moe

@[expose] public section

set_option maxRecDepth 16384

noncomputable section

namespace Cert.KernelIdeal.Entry

open Cert.KernelIdeal Cert.KernelIdeal.Gen Idealize.ShloMosaic Idealize.ShloMosaic.TcCoe Idealize.ShloMosaic.Tactic
open Idealize.SL Idealize.SL.RA Idealize.SL.BI
open Idealize.ShloMosaic.Rounds
open scoped Idealize.SL.BI
open Idealize.SL.BI.BIBase Idealize.SL.BI.Laws Idealize.SL.ProofMode Idealize.SL.Sem

variable (m : (ℓ : Loc nD τ sig) → Buf (Elt Ideal) ℓ) (ρ : Dev nD → PrngReg)

set_option backward.isDefEq.respectTransparency.types false in
/-- Every execution terminates; each device's results are the contents after the last host operation, its arguments unchanged. -/
theorem run : θ_run defs (onTc (τ := τ) (main (F := Ideal))) ⟨m, fun _ => 0, ρ⟩ (fun r => ∀ c : Dev nD,
      r.2.mem ((c.tc : Thread nD τ).loc main_v14) = W7 m ρ c (Proc.devRef .tc main_v14)
      ∧ r.2.mem ((c.tc : Thread nD τ).loc main_v15) = W7 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨h c _ (mem_uc main_v14 (by decide)), h c _ (mem_uc main_v15 (by decide)), (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c)⟩)

end Cert.KernelIdeal.Entry

end
-- ==== Proof.RefStem.lean ====
/-
  THE REFERENCE'S STEM: each image's two convolutions, read at a position of the argument arrays.
-/
module

public import proofs.«01_k».proof.Proof.Spec
public import proofs.«01_k».proof.Proof.Gen.ReferenceIdeal.Run

@[expose] public section

set_option maxRecDepth 16384

noncomputable section

namespace Cert.ReferenceIdeal.Read

open Cert.ReferenceIdeal Cert.ReferenceIdeal.Gen Cert.ReferenceIdeal.Value Idealize.ShloMosaic Idealize.ShloMosaic.TcCoe Idealize.SL.Sem
open Cert.KernelIdeal (S8x1024)

variable (V0 : Valuation τ sig (Elt Ideal))

/-- The argument arrays in the reference's contents. -/
def args : Spec.Args where
  a0 := V0 (Proc.devRef .tc main_arg0)
  a1 := V0 (Proc.devRef .tc main_arg1)
  a2 := V0 (Proc.devRef .tc main_arg2)
  a3 := V0 (Proc.devRef .tc main_arg3)
  a4 := V0 (Proc.devRef .tc main_arg4)
  a5 := V0 (Proc.devRef .tc main_arg5)
  a6 := V0 (Proc.devRef .tc main_arg6)
  a7 := V0 (Proc.devRef .tc main_arg7)
  a8 := V0 (Proc.devRef .tc main_arg8)
  a9 := V0 (Proc.devRef .tc main_arg9)

/-- The padding value: the integer zero, converted. -/
theorem zero_word : (FloatOps.sitofp (F := Ideal) FTy.f32 (0#32) : EReal) = 0 := by
  show ((((0#32 : BitVec 32).toInt : ℤ) : ℝ) : EReal) = 0
  norm_num

/-- The padded input is the image read at padded coordinates. -/
theorem v1_at (b : Fin 32) (d : Fin 10) (h w : Fin 34) :
    (res_main_v1 V0 (ix4 b d h w) : EReal) = KernelIdeal.Stem.padded (Spec.img (args V0) b) d.val h.val w.val := by
  unfold res_main_v1; pointwise
  unfold KernelIdeal.Stem.padded
  by_cases q : (1 ≤ d.val ∧ d.val - 1 < 8) ∧ (1 ≤ h.val ∧ h.val - 1 < 32) ∧ 1 ≤ w.val ∧ w.val - 1 < 32
  · have q' : KernelIdeal.Stem.inside 8 d.val ∧ KernelIdeal.Stem.inside 32 h.val ∧ KernelIdeal.Stem.inside 32 w.val := by unfold KernelIdeal.Stem.inside; omega
    rw [dif_pos q, dif_pos q']
    unfold Spec.img Spec.hi Spec.lo args
    refine congrArg _ ?_
    idx_ext <;> simp <;> omega
  · have q' : ¬ (KernelIdeal.Stem.inside 8 d.val ∧ KernelIdeal.Stem.inside 32 h.val ∧ KernelIdeal.Stem.inside 32 w.val) := by unfold KernelIdeal.Stem.inside; omega
    rw [dif_neg q, dif_neg q']
    exact zero_word

/-- One tap at a position by row and column. -/
def tapR (b : Fin 32) (c : Fin 10) (d : Fin 8) (r s : ℕ) (k : Fin 3 × Fin 3 × Fin 3) : EReal :=
  KernelIdeal.Stem.padded (Spec.img (args V0) b) (d.val + k.1.val) (r + k.2.1.val) (s + k.2.2.val) * (args V0).a1 (ix5 c (0 : Fin 1) k.1 k.2.1 k.2.2)

/-- The taps up to the `n`-th, added in order. -/
def tapsUpTo (b : Fin 32) (c : Fin 10) (d : Fin 8) (r s : ℕ) (n : ℕ) : EReal :=
  (KernelIdeal.Stem.taps.take n).foldl (fun acc k => acc + tapR V0 b c d r s k) (tapR V0 b c d r s (0, 0, 0))

/-- The first convolution's first seven taps added, at a position, -/
theorem v223_at (b : Fin 32) (c : Fin 10) (d : Fin 8) (r s : Fin 32) :
    (res_main_v223 V0 (ix5 b c d r s) : EReal) = tapsUpTo V0 b c d r.val s.val 6 := by
  unfold res_main_v223
  pointwise [v1_at]
  simp [tapsUpTo, tapR, KernelIdeal.Stem.taps, args, Nat.add_comm]

/-- its first fourteen, -/
theorem v230_at (b : Fin 32) (c : Fin 10) (d : Fin 8) (r s : Fin 32) :
    (res_main_v230 V0 (ix5 b c d r s) : EReal) = tapsUpTo V0 b c d r.val s.val 13 := by
  unfold res_main_v230
  pointwise [v1_at, v223_at]
  simp [tapsUpTo, tapR, KernelIdeal.Stem.taps, args, Nat.add_comm]

/-- and its first twenty-one. -/
theorem v237_at (b : Fin 32) (c : Fin 10) (d : Fin 8) (r s : Fin 32) :
    (res_main_v237 V0 (ix5 b c d r s) : EReal) = tapsUpTo V0 b c d r.val s.val 20 := by
  unfold res_main_v237
  pointwise [v1_at, v230_at]
  simp [tapsUpTo, tapR, KernelIdeal.Stem.taps, args, Nat.add_comm]

/-- The first convolution at a row and a column. -/
theorem conv_at (b : Fin 32) (c : Fin 10) (d : Fin 8) (r s : ℕ) (hr : r < 32) (hs : s < 32) :
    Spec.conv (args V0) b c (ix2 d (⟨r * 32 + s, by omega⟩ : Fin 1024)) = max (tapsUpTo V0 b c d r s 26 + (args V0).a2 (ix1 c)) 0 := by
  have h1 : (r * 32 + s) / 32 = r := by omega
  have h2 : (r * 32 + s) % 32 = s := by omega
  show max (_ + _) _ = _
  have ht : ∀ k, Spec.tap (args V0) b c d (⟨r * 32 + s, by omega⟩ : Fin 1024) k = tapR V0 b c d r s k := fun k => by
    unfold Spec.tap tapR
    simp only [h1, h2]
  show max (KernelIdeal.Stem.taps.foldl (fun acc k => acc + Spec.tap (args V0) b c d (⟨r * 32 + s, by omega⟩ : Fin 1024) k)
    (Spec.tap (args V0) b c d (⟨r * 32 + s, by omega⟩ : Fin 1024) (0, 0, 0)) + _) _ = _
  simp only [ht]
  rfl

/-- The first convolution's planes with zeros around them. -/
theorem v248_at (b : Fin 32) (c : Fin 10) (d : Fin 8) (h w : Fin 34) :
    (res_main_v248 V0 (ix5 b c d h w) : EReal) = KernelIdeal.Stem.padded (Spec.conv (args V0) b c) (d.val + 1) h.val w.val := by
  unfold res_main_v248
  pointwise [v1_at, v237_at]
  have hd : KernelIdeal.Stem.inside 8 (d.val + 1) := by unfold KernelIdeal.Stem.inside; omega
  by_cases q : KernelIdeal.Stem.inside 32 h.val ∧ KernelIdeal.Stem.inside 32 w.val
  · have q2 := q
    unfold KernelIdeal.Stem.inside at q2
    have hp : KernelIdeal.Stem.padded (Spec.conv (args V0) b c) (d.val + 1) h.val w.val
        = max (tapsUpTo V0 b c d (h.val - 1) (w.val - 1) 26 + (args V0).a2 (ix1 c)) 0 :=
      (dif_pos (show KernelIdeal.Stem.inside 8 (d.val + 1) ∧ KernelIdeal.Stem.inside 32 h.val ∧ KernelIdeal.Stem.inside 32 w.val from ⟨hd, q⟩)).trans
        (conv_at V0 b c d (h.val - 1) (w.val - 1) (by omega) (by omega))
    refine (dif_pos ?_).trans (Eq.trans ?_ hp.symm)
    · intro a
      change Fin 5 at a
      fin_cases a
      · exact ⟨Nat.zero_le _, Nat.mod_one _, by have := b.isLt; show (b.val - 0) / 1 < 32; omega⟩
      · exact ⟨Nat.zero_le _, Nat.mod_one _, by have := c.isLt; show (c.val - 0) / 1 < 10; omega⟩
      · exact ⟨Nat.zero_le _, Nat.mod_one _, by have := d.isLt; show (d.val - 0) / 1 < 8; omega⟩
      · exact ⟨q2.1.1, Nat.mod_one _, by show (h.val - 1) / 1 < 32; omega⟩
      · exact ⟨q2.2.1, Nat.mod_one _, by show (w.val - 1) / 1 < 32; omega⟩
    · simp [tapsUpTo, tapR, KernelIdeal.Stem.taps, args, Nat.add_comm]
  · have hp : KernelIdeal.Stem.padded (Spec.conv (args V0) b c) (d.val + 1) h.val w.val = 0 := dif_neg fun e => q e.2
    refine (dif_neg fun e => q ?_).trans (zero_word.trans hp.symm)
    have f3 : 1 ≤ h.val := (e (3 : Fin 5)).1
    have f4 : 1 ≤ w.val := (e (4 : Fin 5)).1
    have g3 : (h.val - 1) / 1 < 32 := (e (3 : Fin 5)).2.2
    have g4 : (w.val - 1) / 1 < 32 := (e (4 : Fin 5)).2.2
    unfold KernelIdeal.Stem.inside
    omega

/-- A sum over depths, taps and channels, tap by tap. -/
theorem sum_taps (f : Fin 8 → Fin 3 → Fin 3 → Fin 10 → EReal) :
    ∑ d : Fin 8, ∑ kh : Fin 3, ∑ kw : Fin 3, ∑ c : Fin 10, f d kh kw c
    = (∑ c, ∑ d, f d 0 0 c) + (∑ c, ∑ d, f d 0 1 c) + (∑ c, ∑ d, f d 0 2 c) + (∑ c, ∑ d, f d 1 0 c) + (∑ c, ∑ d, f d 1 1 c)
      + (∑ c, ∑ d, f d 1 2 c) + (∑ c, ∑ d, f d 2 0 c) + (∑ c, ∑ d, f d 2 1 c) + (∑ c, ∑ d, f d 2 2 c) := by
  have h : ∑ d : Fin 8, ∑ kh : Fin 3, ∑ kw : Fin 3, ∑ c : Fin 10, f d kh kw c
      = ∑ kh : Fin 3, ∑ kw : Fin 3, ∑ c : Fin 10, ∑ d : Fin 8, f d kh kw c := by
    rw [Finset.sum_comm]
    refine Finset.sum_congr rfl fun kh _ => ?_
    rw [Finset.sum_comm]
    exact Finset.sum_congr rfl fun kw _ => Finset.sum_comm
  rw [h]
  simp only [Fin.sum_univ_three, add_assoc]

/-- The reference's stem. -/
theorem v297_at (b : Fin 32) (p : Fin 1024) : (res_main_v297 V0 (ix2 b p) : EReal) = Spec.stem (args V0) b p := by
  unfold res_main_v297
  pointwise [v248_at]
  unfold Spec.stem
  rw [sum_taps]
  simp [args, Nat.add_comm]

end Cert.ReferenceIdeal.Read

end
-- ==== Proof.TopTwo.lean ====
/-
  THE TWO BEST EXPERTS OF A ROW, BY SORTING: a stable sort of eight numbers, largest first, puts the first index of the largest
  number at 0 and, with that one taken away, the first index of the largest left at 1. A row's gates in terms of these two.
-/
module

public import proofs.«01_k».proof.Proof.Moe
public import Idealize.ShloMosaic.Lib.SortFacts

@[expose] public section

set_option maxRecDepth 16384

noncomputable section

namespace Cert.Moe

open Idealize.ShloMosaic

/-- `a` comes before `b`: its number is larger, or equal at a smaller index. -/
def Ahead (f : Fin 8 → EReal) (a b : Fin 8) : Prop := f b < f a ∨ (f a = f b ∧ a < b)

/-- The sort's comparison of two indices. -/
def larger (f : Fin 8 → EReal) (a b : Fin 8) : Bool := FloatOps.cmpfTotal (F := Ideal) (φ := .f32) .gt (f a) (f b) == 1#1

/-- The sort's comparison is the order's. -/
theorem larger_iff (f : Fin 8 → EReal) (a b : Fin 8) : larger f a b = true ↔ f b < f a := by
  unfold larger
  show (BitVec.ofBool (decide (f a > f b)) == 1#1) = true ↔ _
  by_cases h : f b < f a <;> simp [h]

/-- Inserting an index ahead of later ones keeps a list ordered. -/
theorem ahead_insert (f : Fin 8 → EReal) (a : Fin 8) (l : List (Fin 8)) (hl : l.Pairwise (Ahead f)) (ha : ∀ b ∈ l, a < b) :
    (insertBefore (larger f) a l).Pairwise (Ahead f) := by
  induction l with
  | nil => exact List.pairwise_singleton _ _
  | cons b l ih =>
    rw [List.pairwise_cons] at hl
    unfold insertBefore
    split
    · rename_i h
      have hba : f a < f b := (larger_iff f b a).mp h
      refine List.pairwise_cons.mpr ⟨fun x hx => ?_, ih hl.2 fun x hx => ha x (List.mem_cons_of_mem b hx)⟩
      rcases List.mem_cons.mp ((perm_insertBefore (larger f) a l).mem_iff.mp hx) with rfl | hx
      · exact .inl hba
      · exact hl.1 x hx
    · rename_i h
      have hab : f b ≤ f a := not_lt.mp fun q => h ((larger_iff f b a).mpr q)
      refine List.pairwise_cons.mpr ⟨fun x hx => ?_, List.pairwise_cons.mpr hl⟩
      have hax := ha x hx
      have hxb : f x ≤ f b := by
        rcases List.mem_cons.mp hx with rfl | hx
        · exact le_rfl
        · rcases hl.1 x hx with q | q
          · exact q.le
          · exact q.1.ge
      rcases (hxb.trans hab).lt_or_eq with q | q
      · exact .inl q
      · exact .inr ⟨q.symm, hax⟩

/-- The sort of an ascending list puts its entries in order. -/
theorem ahead_sort (f : Fin 8 → EReal) (l : List (Fin 8)) (hl : l.Pairwise (· < ·)) : (stableSort (larger f) l).Pairwise (Ahead f) := by
  induction l with
  | nil => exact List.Pairwise.nil
  | cons a l ih =>
    rw [List.pairwise_cons] at hl
    unfold stableSort
    exact ahead_insert f a _ (ih hl.2) fun b hb => hl.1 b ((perm_stableSort _ l).mem_iff.mp hb)

/-- The index the sort puts at `k`. -/
def place (f : Fin 8 → EReal) (k : Fin 8) : Fin 8 := sortedFrom (larger f) k

/-- The sort puts a larger number, or an equal one of smaller index, first. -/
theorem place_ahead (f : Fin 8 → EReal) (i j : Fin 8) (h : i < j) : Ahead f (place f i) (place f j) := by
  have hp := List.pairwise_iff_get.mp (ahead_sort f (List.finRange 8) (List.pairwise_lt_finRange 8))
  unfold place sortedFrom
  exact hp _ _ h

/-- The largest number's first index is ahead of every other. -/
theorem ahead_of_ne (f : Fin 8 → EReal) (k e : Fin 8) (h : ∀ i, i ≤ k → place f i ≠ e) : Ahead f (place f k) e := by
  obtain ⟨j, rfl⟩ := sortedFrom_surjective (larger f) e
  exact place_ahead f k j (not_le.mp fun q => h j q rfl)

/-- The first two places are different experts. -/
theorem place_ne (f : Fin 8 → EReal) : place f 0 ≠ place f 1 := fun h =>
  absurd (sortedFrom_injective (larger f) h) (by decide)

/-- Who is ahead is no smaller. -/
theorem Ahead.le {f : Fin 8 → EReal} {a b : Fin 8} (h : Ahead f a b) : f b ≤ f a := by
  rcases h with h | h
  · exact h.le
  · exact h.1.ge

/-- A row's largest number stands at 0. -/
theorem top_eq (f : Fin 8 → EReal) : top f = f (place f 0) := by
  refine le_antisymm (top_le f _ fun j => ?_) (le_top f _)
  by_cases h : place f 0 = j
  · rw [h]
  · exact (ahead_of_ne f 0 j fun i hi => by rwa [Fin.le_zero_iff.mp hi]).le

/-- The first place is the first expert with the largest logit, -/
theorem first_place (f : Fin 8 → EReal) : First f (place f 0) := by
  refine ⟨(top_eq f).symm, fun j hj e => ?_⟩
  rw [top_eq] at e
  rcases ahead_of_ne f 0 j (fun i hi => by rw [Fin.le_zero_iff.mp hi]; exact hj.ne') with q | q
  · exact absurd e q.ne
  · exact absurd hj (not_lt.mpr q.2.le)

/-- Only one index is the first. -/
theorem First.unique {f : Fin 8 → EReal} {a b : Fin 8} (ha : First f a) (hb : First f b) : a = b := by
  rcases lt_trichotomy a b with h | h | h
  · exact absurd ha.1 (hb.2 a h)
  · exact h
  · exact absurd hb.1 (ha.2 b h)

/-- and the only one. -/
theorem first_iff (f : Fin 8 → EReal) (e : Fin 8) : First f e ↔ e = place f 0 :=
  ⟨fun h => h.unique (first_place f), fun h => h ▸ first_place f⟩

/-- The row with its best taken away, off and at the best. -/
theorem rest_ne (f : Fin 8 → EReal) {e : Fin 8} (h : e ≠ place f 0) : rest f e = f e := if_neg fun q => h ((first_iff f e).mp q)

/-- The best expert's logit is taken away. -/
theorem rest_place (f : Fin 8 → EReal) : rest f (place f 0) = ⊥ := if_pos (first_place f)

/-- The largest of the rest is in the second place. -/
theorem top_rest (f : Fin 8 → EReal) : top (rest f) = f (place f 1) := by
  refine le_antisymm (top_le _ _ fun j => ?_) ?_
  · by_cases h0 : j = place f 0
    · rw [h0, rest_place]; exact bot_le
    · rw [rest_ne f h0]
      by_cases h1 : place f 1 = j
      · rw [h1]
      · refine (ahead_of_ne f 1 j fun i hi => ?_).le
        have : i = 0 ∨ i = 1 := by omega
        rcases this with rfl | rfl
        · exact fun q => h0 q.symm
        · exact h1
  · rw [← rest_ne f (place_ne f).symm]
    exact le_top _ _

/-- The second place is the first among the rest. -/
theorem first_rest (f : Fin 8 → EReal) (hf : ∀ e, f e ≠ ⊥) : First (rest f) (place f 1) := by
  refine ⟨by rw [top_rest, rest_ne f (place_ne f).symm], fun j hj e => ?_⟩
  rw [top_rest] at e
  by_cases h0 : j = place f 0
  · rw [h0, rest_place] at e
    exact hf _ e.symm
  · rw [rest_ne f h0] at e
    rcases ahead_of_ne f 1 j (fun i hi => by
      have : i = 0 ∨ i = 1 := by omega
      rcases this with rfl | rfl
      · exact fun q => h0 q.symm
      · exact hj.ne') with q | q
    · exact absurd e q.ne
    · exact absurd hj (not_lt.mpr q.2.le)

/-- A row's gates by the sort: the two best experts carry their softmax's weights, the others none. -/
theorem gate_eq (f : Fin 8 → EReal) (hf : ∀ e, f e ≠ ⊥) (e : Fin 8) :
    gate f e = if e = place f 1 then Ideal.div (Ideal.exp (f (place f 1) - f (place f 0))) (1 + Ideal.exp (f (place f 1) - f (place f 0)))
      else if e = place f 0 then Ideal.div 1 (1 + Ideal.exp (f (place f 1) - f (place f 0))) else 0 := by
  have hs : First (rest f) e ↔ e = place f 1 := ⟨fun h => h.unique (first_rest f hf), fun h => h ▸ first_rest f hf⟩
  unfold gate
  have hr : ratio f = Ideal.exp (f (place f 1) - f (place f 0)) := by unfold ratio; rw [top_rest, top_eq]
  rw [hr]
  by_cases h1 : e = place f 1
  · have h0 : ¬ First f e := fun h => place_ne f ((((first_iff f e).mp h).symm).trans h1)
    rw [if_neg h0, if_pos (hs.mpr h1), if_pos h1, zero_add]
  · rw [if_neg (fun h => h1 (hs.mp h)), if_neg h1, add_zero]
    by_cases h0 : e = place f 0
    · rw [if_pos h0, if_pos ((first_iff f e).mpr h0)]
    · rw [if_neg h0, if_neg (fun h => h0 ((first_iff f e).mp h))]

end Cert.Moe

end
-- ==== Proof.RefGate.lean ====
/-
  THE REFERENCE'S GATES: its logits, its sort's first two and their softmax scattered into the row.
-/
module

public import proofs.«01_k».proof.Proof.RefStem
public import proofs.«01_k».proof.Proof.TopTwo
public import Idealize.ShloMosaic.Lib.ScatterToDense.RefScatter

@[expose] public section

set_option maxRecDepth 16384

noncomputable section

namespace Cert.ReferenceIdeal.Read

open Cert.ReferenceIdeal Cert.ReferenceIdeal.Gen Cert.ReferenceIdeal.Value Idealize.ShloMosaic Idealize.ShloMosaic.TcCoe Idealize.SL.Sem
open Cert.Moe (place)

variable (V0 : Valuation τ sig (Elt Ideal))

/-- The module and the image of a row of the table of logits. -/
def rowOf (i : Fin 5) (b : Fin 32) : Fin 160 := ⟨i.val * 32 + b.val, by omega⟩

/-- A row of the table of logits. -/
def score (q : Fin 160) (e : Fin 8) : EReal := res_main_v300 V0 (ix2 q e)

/-- A row of the table holds its module's and image's logits. -/
theorem score_at (i : Fin 5) (b : Fin 32) : score V0 (rowOf i b) = Spec.logit (args V0) i b := funext fun e => by
  have h : score V0 (rowOf i b) e
      = ∑ k : Fin 1024, ((args V0).a5 (ix3 i k e) : EReal) * Spec.stem (args V0) b k := by
    unfold score res_main_v300 rowOf
    pointwise [v297_at]
    rfl
  rw [h]
  exact Finset.sum_congr rfl fun k _ => EReal.mul_comm _ _

/-- The first entries of a sorted row, and where they come from. -/
theorem topK_at (x : FVec Ideal S160x8 .f32) (q : Fin 160) (r : Fin 3) :
    (Host.topK S160x3 1 (FloatOps.cmpfTotal .gt) x sliceFits_S160x8_S160x3).1 (ix2 q r)
      = x (ix2 q (place (fun e => x (ix2 q e)) ⟨r.val, by omega⟩))
    ∧ (Host.topK S160x3 1 (FloatOps.cmpfTotal .gt) x sliceFits_S160x8_S160x3).2 (ix2 q r)
      = BitVec.ofNat 32 (place (fun e => x (ix2 q e)) ⟨r.val, by omega⟩).val := by
  have hal : ∀ (j : S160x8.Idx) (k : Fin 8), j.along (1 : Fin 2) k = ix2 (j 0 : Fin 160) k := fun j k => by
    funext a
    match a with
    | 0 => rfl
    | 1 => rfl
  unfold Host.topK Host.sort2
  dsimp only
  rw [dif_pos (by decide : (1 : ℕ) < S160x8.rank)]
  have hix : ∀ {α : Type} (y : S160x8.Idx → α),
      extractStridedSlice S160x3 (fun _ => 0) y sliceFits_S160x8_S160x3 (ix2 q r) = y (ix2 q ⟨r.val, by omega⟩) := fun y => by
    pointwise
  generalize hr : (⟨r.val, by omega⟩ : Fin 8) = r' at hix ⊢
  constructor
  · refine (hix _).trans ?_
    show x ((ix2 q r' : S160x8.Idx).along (1 : Fin 2) (sortedFrom (fun k k' : Fin 8 =>
      FloatOps.cmpfTotal (F := Ideal) (φ := .f32) .gt (x ((ix2 q r' : S160x8.Idx).along (1 : Fin 2) k))
        (x ((ix2 q r' : S160x8.Idx).along (1 : Fin 2) k')) == 1#1) r')) = _
    simp only [hal]
    exact congrArg x (hal _ _)
  · refine (hix _).trans ?_
    dsimp only
    rw [dif_pos (by decide : (1 : ℕ) < 2)]
    show iotaInDim S160x8 32 1 ((ix2 q r' : S160x8.Idx).along (1 : Fin 2) (sortedFrom (fun k k' : Fin 8 =>
      FloatOps.cmpfTotal (F := Ideal) (φ := .f32) .gt (x ((ix2 q r' : S160x8.Idx).along (1 : Fin 2) k))
        (x ((ix2 q r' : S160x8.Idx).along (1 : Fin 2) k')) == 1#1) r')) = _
    simp only [hal]
    rfl

/-- The two chosen logits, as a table. -/
def kept : FVec Ideal S160x2 .f32 := res_main_v301 V0

/-- The exponentials of the two chosen logits, as a table. -/
def expo : FVec Ideal S160x2 .f32 := res_main_v308 V0

/-- The two chosen logits of a row. -/
theorem kept_at (q : Fin 160) (r : Fin 2) : kept V0 (ix2 q r) = score V0 q (place (score V0 q) ⟨r.val, by omega⟩) := by
  unfold kept res_main_v301
  refine Eq.trans ?_ (topK_at (res_main_v300 V0) q ⟨r.val, by omega⟩).1
  pointwise

/-- The two chosen experts of a row. -/
theorem v316_at (q : Fin 160) (r : Fin 2) :
    res_main_v316 V0 (ix2 q r) = BitVec.ofNat 32 (place (score V0 q) ⟨r.val, by omega⟩).val := by
  unfold res_main_v316
  refine Eq.trans ?_ (topK_at (res_main_v300 V0) q ⟨r.val, by omega⟩).2
  pointwise

/-- The largest of a table's row of two, when its first is. -/
theorem fold_two (x : FVec Ideal S160x2 .f32) (q : Fin 160) (h : x (ix2 q 1) ≤ x (ix2 q 0)) :
    Finset.fold max (Ideal.ofBits .f32 4286578688#32) x
      (Finset.univ.filter fun i => reducesTo_S160x2_S160_d1.drop i = ix1 q) = x (ix2 q 0) := by
  apply le_antisymm
  · rw [Finset.fold_max_le]
    refine ⟨by rw [Moe.negInf]; exact bot_le, fun i hi => ?_⟩
    obtain ⟨p, r, rfl⟩ : ∃ (p : Fin 160) (r : Fin 2), i = ix2 p r := ⟨i 0, i 1, eq_ix2 i⟩
    have hp : p = q := congrFun (Finset.mem_filter.mp hi).2 0
    subst hp
    fin_cases r
    · exact le_rfl
    · exact h
  · rw [Finset.le_fold_max]
    exact Or.inr ⟨ix2 q 0, Finset.mem_filter.mpr ⟨Finset.mem_univ _, by
      funext a
      match a with
      | 0 => rfl⟩, le_rfl⟩

/-- The second choice of a row is no larger than its first. -/
theorem kept_le (q : Fin 160) : kept V0 (ix2 q 1) ≤ kept V0 (ix2 q 0) := by
  rw [kept_at, kept_at]
  have h := Moe.top_eq (score V0 q)
  exact (Moe.le_top _ _).trans h.le

/-- An exponential is of the choice's logit less the first choice's. -/
theorem expo_at (q : Fin 160) (r : Fin 2) :
    expo V0 (ix2 q r) = Ideal.exp (kept V0 (ix2 q r) - kept V0 (ix2 q 0)) := by
  unfold expo res_main_v308
  pointwise
  refine congrArg (fun z => Ideal.exp (kept V0 (ix2 q r) - z)) ?_
  refine (congrArg (max _) (fold_two (kept V0) q (kept_le V0 q))).trans ?_
  rw [Moe.negInf]
  exact max_eq_right bot_le

/-- A row's word is not negative, so it is kept as it is; -/
theorem row_word : ∀ q : Fin 160, Scalar.select (IntOp.cmpi .slt (BitVec.ofNat 32 q.val) 0#32)
    (IntOp.addi (BitVec.ofNat 32 q.val) 160#32) (BitVec.ofNat 32 q.val) = BitVec.ofNat 32 q.val := by decide

/-- nor is an expert's. -/
theorem expert_word : ∀ e : Fin 8, Scalar.select (IntOp.cmpi .slt (BitVec.ofNat 32 e.val) 0#32)
    (IntOp.addi (BitVec.ofNat 32 e.val) 8#32) (BitVec.ofNat 32 e.val) = BitVec.ofNat 32 e.val := by decide

/-- The pair of words under which a choice is scattered: the row itself, -/
theorem rowWord_at (q : Fin 160) (r : Fin 2) :
    broadcastInDim S160x2x1 ![0, 1] bcast_S160x2_S160x2x1_0_1
                (broadcastInDim S160x2 ![0, 1] bcast_S160x1_S160x2_0_1
                  (select
                    (cmpi .slt (res_main_v315 V0)
                      (broadcastInDim S160x1 ![] bcast_S_S160x1 (constantI S_ 32 0#32)))
                    (addi (res_main_v315 V0) (broadcastInDim S160x1 ![] bcast_S_S160x1 (constantI S_ 32 160#32)))
                    (res_main_v315 V0))) (ix3 q r 0) = BitVec.ofNat 32 q.val := by
  unfold res_main_v315
  pointwise
  exact row_word q

/-- and the expert. -/
theorem expertWord_at (q : Fin 160) (r : Fin 2) :
    broadcastInDim S160x2x1 ![0, 1] bcast_S160x2_S160x2x1_0_1
                (select
                  (cmpi .slt (res_main_v316 V0)
                    (broadcastInDim S160x2 ![] bcast_S_S160x2 (constantI S_ 32 0#32)))
                  (addi (res_main_v316 V0) (broadcastInDim S160x2 ![] bcast_S_S160x2 (constantI S_ 32 8#32)))
                  (res_main_v316 V0)) (ix3 q r 0) = BitVec.ofNat 32 (place (score V0 q) ⟨r.val, by omega⟩).val := by
  pointwise [v316_at]
  exact expert_word _

/-- A choice's share of its row's exponentials. -/
def share (q : Fin 160) (r : Fin 2) : EReal :=
  Ideal.div (Ideal.exp (kept V0 (ix2 q r) - kept V0 (ix2 q 0))) (∑ r : Fin 2, Ideal.exp (kept V0 (ix2 q r) - kept V0 (ix2 q 0)))

/-- The quotient by the row's sum is the share. -/
theorem share_at (q : Fin 160) (r : Fin 2) :
    Host.divf (expo V0) (broadcastInDim S160x2 ![0, 1] bcast_S160x1_S160x2_0_1
        (broadcastInDim S160x1 ![0] bcast_S160_S160x1_0
          (Host.reduceAdd (expo V0) (constant S_ FTy.f32 0#32) reducesTo_S160x2_S160_d1 h_S_))) (ix2 q r) = share V0 q r := by
  pointwise [expo_at]
  rfl

/-- The table of gates. -/
def gates : FVec Ideal S5x32x8 .f32 := res_main_v332 V0

/-- The gates of a row whose logits are finite. -/
theorem gates_at (i : Fin 5) (b : Fin 32) (e : Fin 8)
    (hf : ∀ e, Spec.logit (args V0) i b e ≠ ⊥ ∧ Spec.logit (args V0) i b e ≠ ⊤) :
    gates V0 (ix3 i b e) = Spec.gate (args V0) i b e := by
  have hs := score_at V0 i b
  unfold gates res_main_v332
  refine (shapeCast_apply (s := S160x8) (t := S5x32x8) _ _ _ (ix2 (rowOf i b) e) (by
    rw [Shape.rowMajor_val_two, Shape.rowMajor_val_three]; simp [ix2, ix3, rowOf])).trans ?_
  refine (ScatterToDense.scatter_eq_GS scatter_S160x8_S160x2x2_S160x2_n_01_01_2 rfl rfl rfl (by decide) (by decide) _ _ _
    (fun q k => BitVec.ofNat 32 (place (score V0 q) (if k = 0 then 0 else 1)).val)
    (fun q k => share V0 q (if k = 0 then 0 else 1))
    (fun q k => ?_) (fun q k => ?_) (fun q k => ?_) (rowOf i b) e).trans ?_
  · refine Eq.trans ?_ (rowWord_at V0 q k)
    pointwise
  · refine Eq.trans ?_ ((expertWord_at V0 q k).trans ?_)
    · pointwise
    · fin_cases k <;> rfl
  · refine (share_at V0 q k).trans ?_
    fin_cases k <;> rfl
  · have hw : ∀ e' : Fin 8, (e.val = (BitVec.ofNat 32 e'.val).toNat) = (e = e') := fun e' => by
      rw [BitVec.toNat_ofNat, Nat.mod_eq_of_lt (by omega), Fin.ext_iff]
    rw [ScatterToDense.GS_succ, ScatterToDense.GS_succ, ScatterToDense.GS_zero]
    simp only [hw, if_pos, one_ne_zero, if_false]
    have hx : ∀ a, Spec.logit (args V0) i b a - Spec.logit (args V0) i b a = 0 := fun a =>
      EReal.sub_self (hf a).2 (hf a).1
    have hk0 : kept V0 (ix2 (rowOf i b) 0) = Spec.logit (args V0) i b (place (Spec.logit (args V0) i b) 0) := by
      rw [kept_at, hs]; rfl
    have hk1 : kept V0 (ix2 (rowOf i b) 1) = Spec.logit (args V0) i b (place (Spec.logit (args V0) i b) 1) := by
      rw [kept_at, hs]; rfl
    have h0 : broadcastInDim S160x8 ![] bcast_S_S160x8 (constant S_ FTy.f32 0#32 : FVec Ideal S_ .f32) (ix2 (rowOf i b) e) = 0 := by
      pointwise
    have he : Ideal.exp 0 = 1 := by
      show ((Real.exp 0 : ℝ) : EReal) = 1
      rw [Real.exp_zero]; rfl
    unfold share
    rw [Fin.sum_univ_two, hk0, hk1, hx, he, hs]
    refine (if_congr Iff.rfl rfl (if_congr Iff.rfl rfl h0)).trans ?_
    exact (Moe.gate_eq _ (fun e => (hf e).1) e).symm

end Cert.ReferenceIdeal.Read

end
-- ==== Proof.RefMoe.lean ====
/-
  THE REFERENCE'S OUTPUT: its experts' layers and softmax rows, weighted by the gates and put into the polynomial.
-/
module

public import proofs.«01_k».proof.Proof.RefGate

@[expose] public section

set_option maxRecDepth 16384

noncomputable section

namespace Cert.ReferenceIdeal.Read

open Cert.ReferenceIdeal Cert.ReferenceIdeal.Gen Cert.ReferenceIdeal.Value Idealize.ShloMosaic Idealize.ShloMosaic.TcCoe Idealize.SL.Sem

variable (V0 : Valuation τ sig (Elt Ideal))

/-- The experts' output layers before their softmax, and their exponentials, as tables. -/
def deep : FVec Ideal S5x8x32x1024 .f32 := res_main_v368 V0

/-- The table of the exponentials. -/
def expos : FVec Ideal S5x8x32x1024 .f32 := res_main_v375 V0

/-- An expert's output layer before its softmax. -/
def layer (i : Fin 5) (e : Fin 8) (b : Fin 32) : Fin 1024 → EReal :=
  Moe.layer (Spec.stem (args V0) b) (fun k h => (args V0).a6 (ix4 i e k h)) (fun h => (args V0).a7 (ix3 i e h))
    (fun h j => (args V0).a8 (ix4 i e h j)) fun j => (args V0).a9 (ix3 i e j)

/-- The table holds every expert's output layer. -/
theorem deep_at (i : Fin 5) (e : Fin 8) (b : Fin 32) (j : Fin 1024) : deep V0 (ix4 i e b j) = layer V0 i e b j := by
  have h : deep V0 (ix4 i e b j) = (∑ h : Fin 2048, max ((∑ k : Fin 1024, (args V0).a6 (ix4 i e k h) * Spec.stem (args V0) b k)
      + (args V0).a7 (ix3 i e h)) 0 * (args V0).a8 (ix4 i e h j)) + (args V0).a9 (ix3 i e j) := by
    unfold deep res_main_v368
    pointwise [v297_at]
    rfl
  rw [h]
  unfold layer Moe.layer Moe.hidden
  simp only [EReal.mul_comm (Spec.stem (args V0) b _)]

/-- The largest entry of a row of four axes' last. -/
theorem fold_row (x : FVec Ideal S5x8x32x1024 .f32) (i : Fin 5) (e : Fin 8) (b : Fin 32) :
    Finset.fold max (Ideal.ofBits .f32 4286578688#32) x
      (Finset.univ.filter fun y => reducesTo_S5x8x32x1024_S5x8x32_d3.drop y = ix3 i e b) = Moe.top fun j => x (ix4 i e b j) := by
  apply le_antisymm
  · rw [Finset.fold_max_le]
    refine ⟨by rw [Moe.negInf]; exact bot_le, fun y hy => ?_⟩
    obtain ⟨i', e', b', j, rfl⟩ : ∃ (i : Fin 5) (e : Fin 8) (b : Fin 32) (j : Fin 1024), y = ix4 i e b j := ⟨y 0, y 1, y 2, y 3, eq_ix4 y⟩
    have h := (Finset.mem_filter.mp hy).2
    have h0 : i' = i := congrFun h 0
    have h1 : e' = e := congrFun h 1
    have h2 : b' = b := congrFun h 2
    subst h0 h1 h2
    exact Moe.le_top (fun j => x (ix4 i' e' b' j)) j
  · refine Moe.top_le _ _ fun j => ?_
    rw [Finset.le_fold_max]
    exact Or.inr ⟨ix4 i e b j, Finset.mem_filter.mpr ⟨Finset.mem_univ _, by
      funext a
      match a with
      | 0 => rfl
      | 1 => rfl
      | 2 => rfl⟩, le_rfl⟩

/-- The exponentials are of the layer less its largest entry. -/
theorem expos_at (i : Fin 5) (e : Fin 8) (b : Fin 32) (j : Fin 1024) :
    expos V0 (ix4 i e b j) = Ideal.exp (layer V0 i e b j - Moe.top (layer V0 i e b)) := by
  unfold expos res_main_v375
  pointwise
  have h := fold_row (deep V0) i e b
  simp only [deep_at] at h
  refine (congrArg₂ (fun y z => Ideal.exp (y - max (Ideal.ofBits .f32 4286578688#32) z)) (deep_at V0 i e b j) h).trans ?_
  rw [Moe.negInf, max_eq_right bot_le]

/-- The mixture of module `i` and image `b` at lane `p`. -/
def mixed : FVec Ideal S5x32x1x1x32x32 .f32 := res_main_v381 V0

/-- A module's mixture is its experts' rows weighted by their gates. -/
theorem mixed_at (i : Fin 5) (b : Fin 32) (r s : Fin 32)
    (hf : ∀ e, Spec.logit (args V0) i b e ≠ ⊥ ∧ Spec.logit (args V0) i b e ≠ ⊤) :
    mixed V0 (ix6 i b (0 : Fin 1) (0 : Fin 1) r s)
      = ∑ e : Fin 8, Spec.row (args V0) i e b (⟨r.val * 32 + s.val, by omega⟩ : Fin 1024) * Spec.gate (args V0) i b e := by
  have h : mixed V0 (ix6 i b (0 : Fin 1) (0 : Fin 1) r s)
      = ∑ e : Fin 8, gates V0 (ix3 i b e) * Ideal.div (expos V0 (ix4 i e b (⟨r.val * 32 + s.val, by omega⟩ : Fin 1024)))
          (∑ k, expos V0 (ix4 i e b k)) := by
    unfold mixed res_main_v381
    pointwise
    rfl
  rw [h]
  refine Finset.sum_congr rfl fun e _ => ?_
  rw [gates_at V0 i b e hf, EReal.mul_comm]
  simp only [expos_at]
  rfl

end Cert.ReferenceIdeal.Read

end
-- ==== Proof.RefAux.lean ====
/-
  THE REFERENCE'S AUXILIARY LOSS: each module's importance and load over the batch, their squared coefficients of variation, summed.
-/
module

public import proofs.«01_k».proof.Proof.RefGate

@[expose] public section

set_option maxRecDepth 16384

noncomputable section

namespace Cert.ReferenceIdeal.Read

open Cert.ReferenceIdeal Cert.ReferenceIdeal.Gen Cert.ReferenceIdeal.Value Idealize.ShloMosaic Idealize.ShloMosaic.TcCoe Idealize.SL.Sem

variable (V0 : Valuation τ sig (Elt Ideal))

/-- The tables of importances and loads. -/
def imps : FVec Ideal S5x8 .f32 := res_main_v333 V0

/-- The table of loads. -/
def loads : FVec Ideal S5x8 .f32 := res_main_v338 V0

/-- An expert's importance is its gates' sum. -/
theorem imps_at (i : Fin 5) (e : Fin 8) : imps V0 (ix2 i e) = Moe.importance (fun b e => gates V0 (ix3 i b e)) e := by
  unfold imps res_main_v333
  pointwise
  rfl

/-- Adding the words of a property's bits counts where it holds. -/
theorem count_word {ι : Type} [DecidableEq ι] (p : ι → Bool) (s : Finset ι) :
    s.fold IntOp.addi 0#32 (fun x => BitVec.setWidth 32 (BitVec.ofBool (p x))) = BitVec.ofNat 32 (∑ x ∈ s, if p x = true then 1 else 0) := by
  induction s using Finset.induction_on with
  | empty => rfl
  | insert a s ha ih =>
    rw [Finset.fold_insert ha, Finset.sum_insert ha, ih]
    cases p a <;> simp [IntOp.addi, BitVec.ofNat_add]

/-- A count of at most thirty-two, as a number. -/
theorem count_float (n : ℕ) (h : n ≤ 32) : (FloatOps.sitofp (F := Ideal) .f32 (BitVec.ofNat 32 n) : EReal) = (n : EReal) := by
  show (((BitVec.ofNat 32 n).toInt : ℝ) : EReal) = _
  have : (BitVec.ofNat 32 n).toInt = (n : ℤ) := by
    rw [BitVec.toInt_eq_toNat_of_lt] <;> rw [BitVec.toNat_ofNat, Nat.mod_eq_of_lt] <;> omega
  rw [this]
  simp

/-- An expert's load, counted in words, is the count of its positive gates. -/
theorem loads_at (i : Fin 5) (e : Fin 8) : loads V0 (ix2 i e) = Moe.load (fun b e => gates V0 (ix3 i b e)) e := by
  unfold loads res_main_v338
  pointwise
  have hs : ∀ f : S5x32x8.Idx → ℕ, ∑ x ∈ Finset.univ.filter (fun y => reducesTo_S5x32x8_S5x8_d1.drop y = ix2 i e), f x
      = ∑ b : Fin 32, f (ix3 i b e) := fun f => by
    refine Finset.sum_nbij' (fun y => (y 1 : Fin 32)) (fun b => ix3 i b e) (fun _ _ => Finset.mem_univ _) (fun b _ => ?_)
      (fun y hy => ?_) (fun _ _ => rfl) fun y hy => ?_
    · refine Finset.mem_filter.mpr ⟨Finset.mem_univ _, ?_⟩
      funext a
      match a with
      | 0 => rfl
      | 1 => rfl
    all_goals
      obtain ⟨i', b, e', rfl⟩ : ∃ (i : Fin 5) (b : Fin 32) (e : Fin 8), y = ix3 i b e := ⟨y 0, y 1, y 2, eq_ix3 y⟩
      have h := (Finset.mem_filter.mp hy).2
      have h0 : i' = i := congrFun h 0
      have h1 : e' = e := congrFun h 1
      subst h0 h1
      rfl
  refine (congrArg (FloatOps.sitofp (F := Ideal) .f32) ((count_word (fun x => decide ((0 : EReal) < gates V0 x)) _).trans
    (congrArg (BitVec.ofNat 32) (hs _)))).trans ?_
  rw [count_float _ ((Finset.sum_le_card_nsmul _ _ 1 fun b _ => by split <;> omega).trans (by simp))]
  unfold Moe.load
  rw [Nat.cast_sum]
  refine Finset.sum_congr rfl fun b _ => ?_
  simp only [decide_eq_true_eq]
  split <;> simp

/-- The pattern of seven. -/
theorem seven_real : (Ideal.ofBits .f32 0x40E00000#32 : EReal) = ((7 : ℝ) : EReal) := by
  simp [Ideal.ofBits, Ideal.ieee]
  rw [← EReal.coe_mul]
  norm_num

/-- Eight less one is seven, and positive. -/
theorem seven : (Ideal.ofBits .f32 1090519040#32 - FloatOps.sitofp (F := Ideal) .f32 1#32 : EReal) = Ideal.ofBits .f32 0x40E00000#32 := by
  have h1 := count_float 1 (by omega)
  rw [show (1#32) = BitVec.ofNat 32 1 from rfl, h1]
  have h8 : (Ideal.ofBits .f32 1090519040#32 : EReal) = ((8 : ℝ) : EReal) := by
    simp [Ideal.ofBits, Ideal.ieee]
    rw [← EReal.coe_mul]
    norm_num
  have h7 : (Ideal.ofBits .f32 0x40E00000#32 : EReal) = ((7 : ℝ) : EReal) := seven_real
  rw [h8, h7, Nat.cast_one, ← EReal.coe_one, ← EReal.coe_sub]
  norm_num

/-- Seven is positive. -/
theorem seven_pos : (0 : EReal) < Ideal.ofBits .f32 0x40E00000#32 := by
  rw [seven_real]
  exact_mod_cast (by norm_num : (0 : ℝ) < 7)

/-- The squared coefficients of variation of the importances and of the loads. -/
theorem imps_cv (i : Fin 5) :
    Host.divf (select (broadcastInDim S5 ![] bcast_S_S5 (cmpf .ogt (res_main_call4_v8 V0) (constant S_ .f32 0x00000000#32))) (Host.divf (Host.reduceAdd (mulf (res_main_call4_v5 V0) (res_main_call4_v5 V0)) (constant S_ .f32 0x00000000#32) reducesTo_S5x8_S5_d1 h_S_) (broadcastInDim S5 ![] bcast_S_S5 (res_main_call4_v8 V0))) (broadcastInDim S5 ![] bcast_S_S5 (id (constant S_ .f32 0x7FC00000#32)))) (addf (mulf (res_main_v342 V0) (res_main_v342 V0)) (broadcastInDim S5 ![] bcast_S_S5 (constant S_ .f32 0x2EDBE6FF#32))) (ix1 i)
      = Moe.cv fun e => imps V0 (ix2 i e) := by
  unfold res_main_call4_v8 res_main_call4_v5 res_main_v342
  pointwise
  rw [seven, if_pos seven_pos]
  rfl

/-- The same of the loads. -/
theorem loads_cv (i : Fin 5) :
    Host.divf (select (broadcastInDim S5 ![] bcast_S_S5 (cmpf .ogt (res_main_call5_v8 V0) (constant S_ .f32 0x00000000#32))) (Host.divf (Host.reduceAdd (mulf (res_main_call5_v5 V0) (res_main_call5_v5 V0)) (constant S_ .f32 0x00000000#32) reducesTo_S5x8_S5_d1 h_S_) (broadcastInDim S5 ![] bcast_S_S5 (res_main_call5_v8 V0))) (broadcastInDim S5 ![] bcast_S_S5 (id (constant S_ .f32 0x7FC00000#32)))) (addf (mulf (res_main_v350 V0) (res_main_v350 V0)) (broadcastInDim S5 ![] bcast_S_S5 (constant S_ .f32 0x2EDBE6FF#32))) (ix1 i)
      = Moe.cv fun e => loads V0 (ix2 i e) := by
  unfold res_main_call5_v8 res_main_call5_v5 res_main_v350
  pointwise
  rw [seven, if_pos seven_pos]
  rfl

end Cert.ReferenceIdeal.Read

end
-- ==== Proof.RefOut.lean ====
/-
  THE REFERENCE'S TWO RESULTS, read: the output and the auxiliary loss, when every gate logit is finite.
-/
module

public import proofs.«01_k».proof.Proof.RefMoe
public import proofs.«01_k».proof.Proof.RefAux

@[expose] public section

set_option maxRecDepth 16384

noncomputable section

namespace Cert.ReferenceIdeal.Read

open Cert.ReferenceIdeal Cert.ReferenceIdeal.Gen Cert.ReferenceIdeal.Value Idealize.ShloMosaic Idealize.ShloMosaic.TcCoe Idealize.SL.Sem

variable (V0 : Valuation τ sig (Elt Ideal))

/-- What the reference leaves as its output, as a term of its arguments. -/
def output : FVec Ideal S32x8x1x32x32 .f32 :=
  Host.divf (broadcastInDim S32x8x1x32x32 ![] bcast_S_S32x8x1x32x32 (constant S_ .f32 0x3F800000#32)) (addf (broadcastInDim S32x8x1x32x32 ![] bcast_S_S32x8x1x32x32 (constant S_ .f32 0x3F800000#32)) (Host.exp (Host.negf (addf (addf (addf (addf (mulf (mulf (mulf (mulf (V0 (Proc.devRef .tc main_arg0)) (V0 (Proc.devRef .tc main_arg0))) (V0 (Proc.devRef .tc main_arg0))) (V0 (Proc.devRef .tc main_arg0))) (broadcastInDim S32x8x1x32x32 ![0, 1, 2, 3, 4] bcast_S32x1x1x32x32_S32x8x1x32x32_0_1_2_3_4 (shapeCast _ (extractStridedSlice S1x32x1x1x32x32 ![4, 0, 0, 0, 0, 0] (res_main_v381 V0) slices_S5x32x1x1x32x32_S1x32x1x1x32x32_4_0_0_0_0_0) shapeCasts_S1x32x1x1x32x32_S32x1x1x32x32))) (mulf (mulf (mulf (V0 (Proc.devRef .tc main_arg0)) (V0 (Proc.devRef .tc main_arg0))) (V0 (Proc.devRef .tc main_arg0))) (broadcastInDim S32x8x1x32x32 ![0, 1, 2, 3, 4] bcast_S32x1x1x32x32_S32x8x1x32x32_0_1_2_3_4 (shapeCast _ (extractStridedSlice S1x32x1x1x32x32 ![3, 0, 0, 0, 0, 0] (res_main_v381 V0) slices_S5x32x1x1x32x32_S1x32x1x1x32x32_3_0_0_0_0_0) shapeCasts_S1x32x1x1x32x32_S32x1x1x32x32)))) (mulf (mulf (V0 (Proc.devRef .tc main_arg0)) (V0 (Proc.devRef .tc main_arg0))) (broadcastInDim S32x8x1x32x32 ![0, 1, 2, 3, 4] bcast_S32x1x1x32x32_S32x8x1x32x32_0_1_2_3_4 (shapeCast _ (extractStridedSlice S1x32x1x1x32x32 ![2, 0, 0, 0, 0, 0] (res_main_v381 V0) slices_S5x32x1x1x32x32_S1x32x1x1x32x32_2_0_0_0_0_0) shapeCasts_S1x32x1x1x32x32_S32x1x1x32x32)))) (mulf (V0 (Proc.devRef .tc main_arg0)) (broadcastInDim S32x8x1x32x32 ![0, 1, 2, 3, 4] bcast_S32x1x1x32x32_S32x8x1x32x32_0_1_2_3_4 (shapeCast _ (extractStridedSlice S1x32x1x1x32x32 ![0, 0, 0, 0, 0, 0] (res_main_v381 V0) slices_S5x32x1x1x32x32_S1x32x1x1x32x32_0_0_0_0_0_0) shapeCasts_S1x32x1x1x32x32_S32x1x1x32x32)))) (broadcastInDim S32x8x1x32x32 ![0, 1, 2, 3, 4] bcast_S32x1x1x32x32_S32x8x1x32x32_0_1_2_3_4 (shapeCast _ (extractStridedSlice S1x32x1x1x32x32 ![1, 0, 0, 0, 0, 0] (res_main_v381 V0) slices_S5x32x1x1x32x32_S1x32x1x1x32x32_1_0_0_0_0_0) shapeCasts_S1x32x1x1x32x32_S32x1x1x32x32))))))

/-- What the reference leaves as its auxiliary loss, as a term of its arguments. -/
def auxiliary : FVec Ideal S_ .f32 :=
  Host.reduceAdd (mulf (addf (Host.divf (select (broadcastInDim S5 ![] bcast_S_S5 (cmpf .ogt (res_main_call4_v8 V0) (constant S_ .f32 0x00000000#32))) (Host.divf (Host.reduceAdd (mulf (res_main_call4_v5 V0) (res_main_call4_v5 V0)) (constant S_ .f32 0x00000000#32) reducesTo_S5x8_S5_d1 h_S_) (broadcastInDim S5 ![] bcast_S_S5 (res_main_call4_v8 V0))) (broadcastInDim S5 ![] bcast_S_S5 (id (constant S_ .f32 0x7FC00000#32)))) (addf (mulf (res_main_v342 V0) (res_main_v342 V0)) (broadcastInDim S5 ![] bcast_S_S5 (constant S_ .f32 0x2EDBE6FF#32)))) (Host.divf (select (broadcastInDim S5 ![] bcast_S_S5 (cmpf .ogt (res_main_call5_v8 V0) (constant S_ .f32 0x00000000#32))) (Host.divf (Host.reduceAdd (mulf (res_main_call5_v5 V0) (res_main_call5_v5 V0)) (constant S_ .f32 0x00000000#32) reducesTo_S5x8_S5_d1 h_S_) (broadcastInDim S5 ![] bcast_S_S5 (res_main_call5_v8 V0))) (broadcastInDim S5 ![] bcast_S_S5 (id (constant S_ .f32 0x7FC00000#32)))) (addf (mulf (res_main_v350 V0) (res_main_v350 V0)) (broadcastInDim S5 ![] bcast_S_S5 (constant S_ .f32 0x2EDBE6FF#32))))) (broadcastInDim S5 ![] bcast_S_S5 (constant S_ .f32 0x3C23D70A#32))) (constant S_ .f32 0x00000000#32) reducesTo_S5_S_d0 h_S_

/-- Every gate logit is a number. -/
def Numbers : Prop := ∀ i b e, Spec.logit (args V0) i b e ≠ ⊥ ∧ Spec.logit (args V0) i b e ≠ ⊤

/-- The reference's second result is the specification's auxiliary loss. -/
theorem auxiliary_eq (hf : Numbers V0) : auxiliary V0 = fun _ => Spec.aux (args V0) := by
  have hg : ∀ i, (fun b e => gates V0 (ix3 i b e)) = Spec.gate (args V0) i := fun i =>
    funext fun b => funext fun e => gates_at V0 i b e (hf i b)
  funext y
  obtain rfl : y = ix0 := funext fun a => a.elim0
  unfold auxiliary
  have hi := imps_cv V0
  have hl := loads_cv V0
  simp only [imps_at, loads_at, hg] at hi hl
  generalize Host.divf (F := Ideal) (select _ (Host.divf (Host.reduceAdd (mulf (res_main_call4_v5 V0) _) _ _ _) _) _) _ = X at hi ⊢
  generalize Host.divf (F := Ideal) (select _ (Host.divf (Host.reduceAdd (mulf (res_main_call5_v5 V0) _) _ _ _) _) _) _ = Y at hl ⊢
  pointwise
  refine Finset.sum_congr rfl fun i _ => ?_
  rw [hi, hl]
  rfl

/-- The reference's first result is the specification's output. -/
theorem output_at (hf : Numbers V0) (b : Fin 32) (t : Fin 8) (r s : Fin 32) :
    output V0 (ix5 b t (0 : Fin 1) r s) = Spec.out (args V0) b t r s := by
  have hm := fun i => mixed_at V0 i b r s (hf i b)
  unfold output
  show Host.divf (F := Ideal) _ _ _ = _
  generalize hM : res_main_v381 V0 = M
  pointwise
  unfold Spec.out Moe.logistic Moe.poly
  simp only [← hm]
  unfold mixed
  rw [hM, zero_sub, ← mul_assoc]
  rfl

end Cert.ReferenceIdeal.Read

end
-- ==== Proof.lean ====
/-
  THE CERTIFICATE: the frames of the kernel, of its idealization and of the reference, the idealization's preservation, and the
  equality of both results over the extended reals, put together from the modules.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Finite
public import proofs.«01_k».proof.Proof.KernelEntry
public import proofs.«01_k».proof.Proof.KernelRun
public import proofs.«01_k».proof.Proof.RefOut
public import Idealize.ShloMosaic.Adequacy
public import Idealize.ShloMosaic.Init

@[expose] public section

noncomputable section

namespace Cert.Proof

open Idealize.ShloMosaic Idealize.SL.Sem Cert.Kernel

/-- Every counter of the reference is zero at the end: its programs have no semaphore. -/
theorem noSem (s : SemLoc Cert.ReferenceIdeal.sig) : False := by
  revert s; decide

/-- The reference runs to its end and leaves its arguments alone. -/
theorem referenceFrame : @Cert.quiescent_ReferenceIdeal Cert.ReferenceIdeal.Gen.facts := fun m g _ =>
  (θ_run _ _ _).mono (fun _ h => ⟨fun c => (h c).2.2, funext fun s => (noSem s.2).elim⟩) (Cert.ReferenceIdeal.Value.run m g)

/-- Finite arguments, by the precondition's masks. -/
theorem finite_of_pre (m : (ℓ : Loc Cert.KernelIdeal.nD Cert.KernelIdeal.τ Cert.KernelIdeal.sig) → Buf (Elt Ideal) ℓ)
    (h : Cert.Pre_KernelIdeal_finite m) (c : Dev Cert.KernelIdeal.nD) : Cert.Spec.Finite (Cert.KernelIdeal.Entry.args m c) where
  n0 := Cert.Spec.num_of_mask _ Cert.Pre_finite.Facts.bcast_S_S32x8x1x32x32 (h c).1
  n1 := Cert.Spec.num_of_mask _ Cert.Pre_finite.Facts.bcast_S_S10x1x3x3x3 (h c).2.1
  n2 := Cert.Spec.num_of_mask _ Cert.Pre_finite.Facts.bcast_S_S10 (h c).2.2.1
  n3 := Cert.Spec.num_of_mask _ Cert.Pre_finite.Facts.bcast_S_S1x10x8x3x3 (h c).2.2.2.1
  n4 := Cert.Spec.num_of_mask _ Cert.Pre_finite.Facts.bcast_S_S1 (h c).2.2.2.2.1
  n5 := Cert.Spec.num_of_mask _ Cert.Pre_finite.Facts.bcast_S_S5x1024x8 (h c).2.2.2.2.2

/-- Both programs leave the same two results. -/
theorem algebraic : @Cert.algebraic_KernelIdeal_ReferenceIdeal_pre_finite Cert.KernelIdeal.Gen.facts Cert.ReferenceIdeal.Gen.facts
    Cert.Pre_finite.facts := fun m g m' g' hpre hargs => by
  refine ⟨fun c => Cert.KernelIdeal.Gen.W7 m g c (Proc.devRef .tc Cert.KernelIdeal.main_v14),
    fun c => Cert.KernelIdeal.Gen.W7 m g c (Proc.devRef .tc Cert.KernelIdeal.main_v15), Cert.KernelIdeal.Entry.run m g, ?_⟩
  refine (θ_run _ _ _).mono (fun r h c => ?_) (Cert.ReferenceIdeal.Value.run m' g')
  obtain ⟨ho, ha, hrest⟩ := h c
  have hA : Cert.ReferenceIdeal.Read.args (StableHlo.launchContents m' c) = Cert.KernelIdeal.Entry.args m c := by
    obtain ⟨h0, h1, h2, h3, h4, h5, h6, h7, h8, h9⟩ := hargs c
    unfold Cert.ReferenceIdeal.Read.args Cert.KernelIdeal.Entry.args
    congr 1
  have hN : Cert.ReferenceIdeal.Read.Numbers (StableHlo.launchContents m' c) := fun i b e => by
    rw [hA]
    exact (Cert.Spec.logit_num (finite_of_pre m hpre c) i b e).ne
  refine ⟨ho.trans ?_, ha.trans ?_, hrest⟩
  · refine Eq.trans (b := Cert.ReferenceIdeal.Read.output (StableHlo.launchContents m' c)) rfl ?_
    funext y
    obtain ⟨b, t, z, r, s, rfl⟩ : ∃ (b : Fin 32) (t : Fin 8) (z : Fin 1) (r s : Fin 32), y = ix5 b t z r s :=
      ⟨y 0, y 1, y 2, y 3, y 4, eq_ix5 y⟩
    obtain rfl : z = 0 := Subsingleton.elim _ _
    refine (Cert.ReferenceIdeal.Read.output_at _ hN b t r s).trans ?_
    rw [hA]
    exact (Cert.KernelIdeal.Entry.out_at m g c b t r s).symm
  · refine Eq.trans (b := Cert.ReferenceIdeal.Read.auxiliary (StableHlo.launchContents m' c)) rfl ?_
    refine (Cert.ReferenceIdeal.Read.auxiliary_eq _ hN).trans ?_
    rw [hA]
    exact (Cert.KernelIdeal.Entry.aux_eq m g c).symm

/-- Everything the certificate claims. -/
theorem claim : Cert.Claim := ⟨Cert.Kernel.Gen.facts, Cert.KernelIdeal.Gen.facts, Cert.ReferenceIdeal.Gen.facts, Cert.Pre_finite.facts,
  fun m ρ _ => Cert.Kernel.Gen.frame m ρ, fun m ρ _ => Cert.KernelIdeal.Gen.frame m ρ, fun m ρ _ => Cert.KernelIdeal.Gen.frame m ρ,
  referenceFrame, fun m g _ => referenceFrame m g trivial, trivial, algebraic⟩

end Cert.Proof

end
